-- ==== Defs.lean ====
def Pre_Kernel [hPre_ids_in_pool : Cert.Pre_ids_in_pool.Facts] (m : (ℓ : Loc Cert.Kernel.nD Cert.Kernel.τ Cert.Kernel.sig) → Buf (Elt Bits) ℓ) : Prop :=
  ∀ c : Dev Cert.Kernel.nD,
    (Cert.Pre_ids_in_pool.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_ids_in_pool : Cert.Pre_ids_in_pool.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_pool.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_pool [hPre_ids_in_pool : Cert.Pre_ids_in_pool.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_pool.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_ids_in_pool : Cert.Pre_ids_in_pool.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_ids_in_pool : Cert.Pre_ids_in_pool.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_ids_in_pool [hReferenceIdeal : Cert.ReferenceIdeal.Facts] [hPre_ids_in_pool : Cert.Pre_ids_in_pool.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_pool m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_pool : Cert.Pre_ids_in_pool.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14_0) = v0 c
          ∧ r.2.mem ((c.tc : Thread Cert.ReferenceIdeal.nD Cert.ReferenceIdeal.τ).loc Cert.ReferenceIdeal.main_v14_1) = v1 c
          ∧ r.2.mem ((c.tc : Thread Cert.ReferenceIdeal.nD Cert.ReferenceIdeal.τ).loc Cert.ReferenceIdeal.main_v14_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_ids_in_pool : Cert.Pre_ids_in_pool.Facts),
    quiescent_Kernel (hKernel := hKernel) (hPre_ids_in_pool := hPre_ids_in_pool)
    ∧ quiescent_KernelIdeal (hKernelIdeal := hKernelIdeal) (hPre_ids_in_pool := hPre_ids_in_pool)
    ∧ quiescent_ReferenceIdeal (hReferenceIdeal := hReferenceIdeal)
    ∧ quiescent_ReferenceIdeal_pre_ids_in_pool (hReferenceIdeal := hReferenceIdeal) (hPre_ids_in_pool := hPre_ids_in_pool)
    ∧ preserves_Kernel_KernelIdeal
    ∧ algebraic_KernelIdeal_ReferenceIdeal (hKernelIdeal := hKernelIdeal) (hReferenceIdeal := hReferenceIdeal) (hPre_ids_in_pool := hPre_ids_in_pool)
-- ==== Pre_ids_in_pool.lean ====
abbrev S144x128x64 : Shape := ⟨3, ![144, 128, 64]⟩
abbrev S144x128 : Shape := ⟨2, ![144, 128]⟩
abbrev S128 : Shape := ⟨1, ![128]⟩
abbrev S144x8x256 : Shape := ⟨3, ![144, 8, 256]⟩
abbrev S183x128x256x64 : Shape := ⟨4, ![183, 128, 256, 64]⟩
abbrev S183x128x256 : Shape := ⟨3, ![183, 128, 256]⟩
abbrev S144 : Shape := ⟨1, ![144]⟩
abbrev S_ : Shape := ⟨0, ![]⟩

class Facts : Prop where
  bcast_S_S144 : S_.BroadcastsInDim S144 (![] : Fin 0 → Fin S144.rank)

variable [Facts]

def fn {F : FTy → Type} [FloatOps F] (main_arg0 : FVec F S144x128x64 .bf16) (main_arg1 : FVec F S144x128 .bf16) (main_arg2 : FVec F S128 .f32) (main_arg3 : FVec F S128 .f32) (main_arg4 : FVec F S144x8x256 .bf16) (main_arg5 : FVec F S144x8x256 .bf16) (main_arg6 : FVec F S128 .f32) (main_arg7 : FVec F S183x128x256x64 .fp8e4m3) (main_arg8 : FVec F S183x128x256 .f32) (main_arg9 : IVec S144 32) : IVec S144 1 :=
  let main_c : IVec S_ 32 := constantI S_ 32 0#32
  let main_v0 : IVec S144 32 := broadcastInDim S144 ![] bcast_S_S144 main_c
  let main_v1 : IVec S144 1 := cmpi .sge main_arg9 main_v0
  let main_c_0 : IVec S_ 32 := constantI S_ 32 183#32
  let main_v2 : IVec S144 32 := broadcastInDim S144 ![] bcast_S_S144 main_c_0
  let main_v3 : IVec S144 1 := cmpi .slt main_arg9 main_v2
  let main_v4 : IVec S144 1 := andi main_v1 main_v3
  main_v4
-- ==== Kernel.lean ====
abbrev S144x128x64 : Shape := ⟨3, ![144, 128, 64]⟩
abbrev S144x128 : Shape := ⟨2, ![144, 128]⟩
abbrev S128 : Shape := ⟨1, ![128]⟩
abbrev S144x8x256 : Shape := ⟨3, ![144, 8, 256]⟩
abbrev S183x128x256x64 : Shape := ⟨4, ![183, 128, 256, 64]⟩
abbrev S183x128x256 : Shape := ⟨3, ![183, 128, 256]⟩
abbrev S144 : Shape := ⟨1, ![144]⟩
abbrev S144x64x128 : Shape := ⟨3, ![144, 64, 128]⟩
abbrev S144x1x128 : Shape := ⟨3, ![144, 1, 128]⟩
abbrev S1x128 : Shape := ⟨2, ![1, 128]⟩
abbrev S183x128x64x256 : Shape := ⟨4, ![183, 128, 64, 256]⟩
abbrev S144x128x64x256 : Shape := ⟨4, ![144, 128, 64, 256]⟩
abbrev S144x128x256 : Shape := ⟨3, ![144, 128, 256]⟩
abbrev S1x64x128 : Shape := ⟨3, ![1, 64, 128]⟩
abbrev S1x1x128 : Shape := ⟨3, ![1, 1, 128]⟩
abbrev S1x8x256 : Shape := ⟨3, ![1, 8, 256]⟩
abbrev S1x128x64x256 : Shape := ⟨4, ![1, 128, 64, 256]⟩
abbrev S1 : Shape := ⟨1, ![1]⟩
abbrev S1x128x256 : Shape := ⟨3, ![1, 128, 256]⟩
abbrev S64x128 : Shape := ⟨2, ![64, 128]⟩
abbrev S8x256 : Shape := ⟨2, ![8, 256]⟩
abbrev S1x1x64x256 : Shape := ⟨4, ![1, 1, 64, 256]⟩
abbrev S64x256 : Shape := ⟨2, ![64, 256]⟩
abbrev S1x1 : Shape := ⟨2, ![1, 1]⟩
abbrev S1x1x256 : Shape := ⟨3, ![1, 1, 256]⟩
abbrev S1x256 : Shape := ⟨2, ![1, 256]⟩
abbrev S64x1 : Shape := ⟨2, ![64, 1]⟩
abbrev S256 : Shape := ⟨1, ![256]⟩
abbrev S252x256 : Shape := ⟨2, ![252, 256]⟩
abbrev S64 : Shape := ⟨1, ![64]⟩
abbrev S144x128x256x64 : Shape := ⟨4, ![144, 128, 256, 64]⟩

abbrev nBuf : Space → Nat
  | .hbm => 20
  | .vmem => 21
  | .smem => 1
  | _ => 0

abbrev bufTy : (tb : Table) → Fin (tcTables nBuf tb) → BufTy
  | .hbm, ⟨0, _⟩ => ⟨S144x128x64, .bf16⟩
  | .hbm, ⟨1, _⟩ => ⟨S144x128, .bf16⟩
  | .hbm, ⟨2, _⟩ => ⟨S128, .f32⟩
  | .hbm, ⟨3, _⟩ => ⟨S128, .f32⟩
  | .hbm, ⟨4, _⟩ => ⟨S144x8x256, .bf16⟩
  | .hbm, ⟨5, _⟩ => ⟨S144x8x256, .bf16⟩
  | .hbm, ⟨6, _⟩ => ⟨S128, .f32⟩
  | .hbm, ⟨7, _⟩ => ⟨S183x128x256x64, .fp8e4m3⟩
  | .hbm, ⟨8, _⟩ => ⟨S183x128x256, .f32⟩
  | .hbm, ⟨9, _⟩ => ⟨S144x64x128, .bf16⟩
  | .hbm, ⟨10, _⟩ => ⟨S144x1x128, .bf16⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S183x128x64x256, .fp8e4m3⟩
  | .hbm, ⟨15, _⟩ => ⟨S144x64x128, .bf16⟩
  | .hbm, ⟨16, _⟩ => ⟨S144x128x64x256, .fp8e4m3⟩
  | .hbm, ⟨17, _⟩ => ⟨S144x128x256, .f32⟩
  | .hbm, ⟨18, _⟩ => ⟨S144x128x64, .bf16⟩
  | .hbm, ⟨19, _⟩ => ⟨S144x128x256x64, .fp8e4m3⟩
  | .local _ .vmem, ⟨0, _⟩ => ⟨S1x64x128, .bf16⟩
  | .local _ .vmem, ⟨1, _⟩ => ⟨S1x64x128, .bf16⟩
  | .local _ .vmem, ⟨2, _⟩ => ⟨S1x1x128, .bf16⟩
  | .local _ .vmem, ⟨3, _⟩ => ⟨S1x1x128, .bf16⟩
  | .local _ .vmem, ⟨4, _⟩ => ⟨S1x128, .f32⟩
  | .local _ .vmem, ⟨5, _⟩ => ⟨S1x128, .f32⟩
  | .local _ .vmem, ⟨6, _⟩ => ⟨S1x8x256, .bf16⟩
  | .local _ .vmem, ⟨7, _⟩ => ⟨S1x8x256, .bf16⟩
  | .local _ .vmem, ⟨8, _⟩ => ⟨S1x8x256, .bf16⟩
  | .local _ .vmem, ⟨9, _⟩ => ⟨S1x8x256, .bf16⟩
  | .local _ .vmem, ⟨10, _⟩ => ⟨S1x128, .f32⟩
  | .local _ .vmem, ⟨11, _⟩ => ⟨S1x128x64x256, .fp8e4m3⟩
  | .local _ .vmem, ⟨12, _⟩ => ⟨S1x128x64x256, .fp8e4m3⟩
  | .local _ .vmem, ⟨13, _⟩ => ⟨S1x128x256, .f32⟩
  | .local _ .vmem, ⟨14, _⟩ => ⟨S1x128x256, .f32⟩
  | .local _ .vmem, ⟨15, _⟩ => ⟨S1x64x128, .bf16⟩
  | .local _ .vmem, ⟨16, _⟩ => ⟨S1x64x128, .bf16⟩
  | .local _ .vmem, ⟨17, _⟩ => ⟨S1x128x64x256, .fp8e4m3⟩
  | .local _ .vmem, ⟨18, _⟩ => ⟨S1x128x64x256, .fp8e4m3⟩
  | .local _ .vmem, ⟨19, _⟩ => ⟨S1x128x256, .f32⟩
  | .local _ .vmem, ⟨20, _⟩ => ⟨S1x128x256, .f32⟩
  | .local _ .smem, ⟨0, _⟩ => ⟨S144, .i32⟩
  | _, _ => ⟨S144x128x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v7 : Ref sig .tc := ⟨.hbm, 18, rfl⟩
abbrev main_v8 : Ref sig .tc := ⟨.hbm, 19, rfl⟩
abbrev main_arg9 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![144], ![false]⟩

abbrev pre0 : Pipeline.Prefetch sig := ⟨1, ![main_arg9.idx], fun | 0 => main_arg9.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (k0_off1_inb : ∀ i : grid0.Coords, ∀ a, (k0_off1 i) a + S1.size a ≤ S144.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_8 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x128x64x256 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x64x256 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S144x128x64 : Shape := ⟨3, ![144, 128, 64]⟩
abbrev S144x128 : Shape := ⟨2, ![144, 128]⟩
abbrev S128 : Shape := ⟨1, ![128]⟩
abbrev S144x8x256 : Shape := ⟨3, ![144, 8, 256]⟩
abbrev S183x128x256x64 : Shape := ⟨4, ![183, 128, 256, 64]⟩
abbrev S183x128x256 : Shape := ⟨3, ![183, 128, 256]⟩
abbrev S144 : Shape := ⟨1, ![144]⟩
abbrev S_ : Shape := ⟨0, ![]⟩
abbrev S144x1 : Shape := ⟨2, ![144, 1]⟩
abbrev S144x128x256x64 : Shape := ⟨4, ![144, 128, 256, 64]⟩
abbrev S144x128x256 : Shape := ⟨3, ![144, 128, 256]⟩
abbrev S144x128x256x1 : Shape := ⟨4, ![144, 128, 256, 1]⟩
abbrev S1x128 : Shape := ⟨2, ![1, 128]⟩
abbrev S144x8x1x256 : Shape := ⟨4, ![144, 8, 1, 256]⟩
abbrev S144x8x16x256 : Shape := ⟨4, ![144, 8, 16, 256]⟩
abbrev S144x128x1 : Shape := ⟨3, ![144, 128, 1]⟩
abbrev S144x128x1x1 : Shape := ⟨4, ![144, 128, 1, 1]⟩
abbrev S144x128x1x64 : Shape := ⟨4, ![144, 128, 1, 64]⟩
abbrev S128x1 : Shape := ⟨2, ![128, 1]⟩
abbrev S1x128x1 : Shape := ⟨3, ![1, 128, 1]⟩

abbrev nBuf : Space → Nat
  | .hbm => 31
  | .vmem => 12
  | .smem => 0
  | _ => 0

abbrev bufTy : (tb : Table) → Fin (tcTables nBuf tb) → BufTy
  | .hbm, ⟨0, _⟩ => ⟨S144x128x64, .bf16⟩
  | .hbm, ⟨1, _⟩ => ⟨S144x128, .bf16⟩
  | .hbm, ⟨2, _⟩ => ⟨S128, .f32⟩
  | .hbm, ⟨3, _⟩ => ⟨S128, .f32⟩
  | .hbm, ⟨4, _⟩ => ⟨S144x8x256, .bf16⟩
  | .hbm, ⟨5, _⟩ => ⟨S144x8x256, .bf16⟩
  | .hbm, ⟨6, _⟩ => ⟨S128, .f32⟩
  | .hbm, ⟨7, _⟩ => ⟨S183x128x256x64, .fp8e4m3⟩
  | .hbm, ⟨8, _⟩ => ⟨S183x128x256, .f32⟩
  | .hbm, ⟨9, _⟩ => ⟨S144, .i32⟩
  | .hbm, ⟨10, _⟩ => ⟨S_, .i32⟩
  | .hbm, ⟨11, _⟩ => ⟨S144, .i32⟩
  | .hbm, ⟨12, _⟩ => ⟨S144, .i1⟩
  | .hbm, ⟨13, _⟩ => ⟨S_, .i32⟩
  | .hbm, ⟨14, _⟩ => ⟨S144, .i32⟩
  | .hbm, ⟨15, _⟩ => ⟨S144, .i32⟩
  | .hbm, ⟨16, _⟩ => ⟨S144, .i32⟩
  | .hbm, ⟨17, _⟩ => ⟨S144x1, .i32⟩
  | .hbm, ⟨18, _⟩ => ⟨S144x128x256x64, .fp8e4m3⟩
  | .hbm, ⟨19, _⟩ => ⟨S_, .i32⟩
  | .hbm, ⟨20, _⟩ => ⟨S144, .i32⟩
  | .hbm, ⟨21, _⟩ => ⟨S144, .i1⟩
  | .hbm, ⟨22, _⟩ => ⟨S_, .i32⟩
  | .hbm, ⟨23, _⟩ => ⟨S144, .i32⟩
  | .hbm, ⟨24, _⟩ => ⟨S144, .i32⟩
  | .hbm, ⟨25, _⟩ => ⟨S144, .i32⟩
  | .hbm, ⟨26, _⟩ => ⟨S144x1, .i32⟩
  | .hbm, ⟨27, _⟩ => ⟨S144x128x256, .f32⟩
  | .hbm, ⟨28, _⟩ => ⟨S144x128x64, .bf16⟩
  | .hbm, ⟨29, _⟩ => ⟨S144x128x256x64, .fp8e4m3⟩
  | .hbm, ⟨30, _⟩ => ⟨S144x128x256, .f32⟩
  | .local _ .vmem, ⟨0, _⟩ => ⟨S144x128x64, .bf16⟩
  | .local _ .vmem, ⟨1, _⟩ => ⟨S144x128, .bf16⟩
  | .local _ .vmem, ⟨2, _⟩ => ⟨S128, .f32⟩
  | .local _ .vmem, ⟨3, _⟩ => ⟨S128, .f32⟩
  | .local _ .vmem, ⟨4, _⟩ => ⟨S144x8x256, .bf16⟩
  | .local _ .vmem, ⟨5, _⟩ => ⟨S144x8x256, .bf16⟩
  | .local _ .vmem, ⟨6, _⟩ => ⟨S128, .f32⟩
  | .local _ .vmem, ⟨7, _⟩ => ⟨S144x128x256x64, .fp8e4m3⟩
  | .local _ .vmem, ⟨8, _⟩ => ⟨S144x128x256, .f32⟩
  | .local _ .vmem, ⟨9, _⟩ => ⟨S144x128x64, .bf16⟩
  | .local _ .vmem, ⟨10, _⟩ => ⟨S144x128x256x64, .fp8e4m3⟩
  | .local _ .vmem, ⟨11, _⟩ => ⟨S144x128x256, .f32⟩
  | _, _ => ⟨S144x128x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v14_2 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S144x128x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S144x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S144x8x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S144x8x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S144x128x256x64 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S144x128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S144x128x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S144x128x256x64 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S144x128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Slots.lean ====
/- The precondition says that every slot the decode step names lies in the pool. From it: the side condition of the
   region's index maps that read the slot table, for the kernel as printed and for its ideal reading. -/
module

public import proofs.«01_k».proof.Defs
public import proofs.«01_k».proof.Proof.Gen.Kernel.Frame.Runs
public import proofs.«01_k».proof.Proof.Gen.KernelIdeal.Frame.Runs
public import proofs.«01_k».proof.Proof.Gen.Pre_ids_in_pool
import Idealize.ShloMosaic.Lib.StableHlo.Predicate
import Idealize.ShloMosaic.Lib.Affine

@[expose] public section

namespace Cert.Decode

open Idealize.ShloMosaic Idealize.ShloMosaic.TcCoe

/-- The predicate, all ones, bounds every word of the slot table. -/
theorem slot_lt {F : FTy → Type} [FloatOps F] {a0 a1 a2 a3 a4 a5 a6 a7 a8} {ids : IVec Cert.Pre_ids_in_pool.S144 32}
    (h : Cert.Pre_ids_in_pool.fn (F := F) a0 a1 a2 a3 a4 a5 a6 a7 a8 ids = fun _ => 1#1) (x : Cert.Pre_ids_in_pool.S144.Idx) :
    (ids x).toNat < 183 := by
  have andi_one (a b : BitVec 1) : IntOp.andi a b = 1#1 ↔ a = 1#1 ∧ b = 1#1 := by revert a b; decide
  have pre := congrFun h x
  simp only [Cert.Pre_ids_in_pool.fn, constantI, broadcastInDim, cmpi, andi, andi_one, IntOp.cmpi,
    StableHlo.Predicate.ofBool_eq_one_iff, BitVec.sle, BitVec.slt, decide_eq_true_eq] at pre
  obtain ⟨h0, h1⟩ := pre
  have e := BitVec.toInt_eq_toNat_cond (ids x)
  have hb := (ids x).isLt
  have h0' : 0 ≤ (ids x).toInt := of_decide_eq_true h0
  have h1' : (ids x).toInt < 183 := of_decide_eq_true h1
  split at e <;> omega

section kernel
open Cert.Kernel Cert.Kernel.Gen

/-- Slots in the pool: the blocks that the two table-indexed windows name are inside their arrays. -/
theorem ok_kernel {F : FTy → Type} [FloatOps F] (m : (ℓ : Loc nD τ sig) → Buf (Elt F) ℓ)
    (h : ∀ x : S144.Idx, (m (((0 : Dev nD) : Thread nD τ).loc main_arg9) x).toNat < 183) : Ok (F := F) m := by
  have ht : ∀ x : S144.Idx, ((tbl m 0 : S144.Idx → BitVec 32) x).toNat < 183 := fun x => by
    have e : tbl m 0 = m (((0 : Dev nD) : Thread nD τ).loc main_arg9) := V_main_arg9 m 0
    rw [e]; exact h x
  refine ⟨fun i => ⟨?_, .inr (Affine.block_words_dvd (of_decide_eq_true rfl) (by decide))⟩,
    fun i => ⟨?_, .inl rfl⟩⟩
  · intro a
    have hw := ht ((Rect.unit (s := S144) (k0_off1 i) S1.size (k0_off1_inb i)).emb (Shape.Idx.first (numel1_S1.symm ▸ Nat.one_pos)))
    match a with
    | ⟨0, _⟩ => exact (Nat.mul_one _).trans_le hw
    | ⟨1, _⟩ => show (0 + 1) * 128 ≤ 128; decide
    | ⟨2, _⟩ => show (0 + 1) * 64 ≤ 64; decide
    | ⟨3, _⟩ => show (0 + 1) * 256 ≤ 256; decide
  · intro a
    have hw := ht ((Rect.unit (s := S144) (k0_off1 i) S1.size (k0_off1_inb i)).emb (Shape.Idx.first (numel1_S1.symm ▸ Nat.one_pos)))
    match a with
    | ⟨0, _⟩ => exact (Nat.mul_one _).trans_le hw
    | ⟨1, _⟩ => show (0 + 1) * 128 ≤ 128; decide
    | ⟨2, _⟩ => show (0 + 1) * 256 ≤ 256; decide

end kernel

section ideal
open Cert.KernelIdeal Cert.KernelIdeal.Gen

/-- Slots in the pool: the blocks that the two table-indexed windows name are inside their arrays. -/
theorem ok_ideal {F : FTy → Type} [FloatOps F] (m : (ℓ : Loc nD τ sig) → Buf (Elt F) ℓ)
    (h : ∀ x : S144.Idx, (m (((0 : Dev nD) : Thread nD τ).loc main_arg9) x).toNat < 183) : Ok (F := F) m := by
  have ht : ∀ x : S144.Idx, ((tbl m 0 : S144.Idx → BitVec 32) x).toNat < 183 := fun x => by
    have e : tbl m 0 = m (((0 : Dev nD) : Thread nD τ).loc main_arg9) := V_main_arg9 m 0
    rw [e]; exact h x
  refine ⟨fun i => ⟨?_, .inr (Affine.block_words_dvd (of_decide_eq_true rfl) (by decide))⟩,
    fun i => ⟨?_, .inl rfl⟩⟩
  · intro a
    have hw := ht ((Rect.unit (s := S144) (k0_off1 i) S1.size (k0_off1_inb i)).emb (Shape.Idx.first (numel1_S1.symm ▸ Nat.one_pos)))
    match a with
    | ⟨0, _⟩ => exact (Nat.mul_one _).trans_le hw
    | ⟨1, _⟩ => show (0 + 1) * 128 ≤ 128; decide
    | ⟨2, _⟩ => show (0 + 1) * 64 ≤ 64; decide
    | ⟨3, _⟩ => show (0 + 1) * 256 ≤ 256; decide
  · intro a
    have hw := ht ((Rect.unit (s := S144) (k0_off1 i) S1.size (k0_off1_inb i)).emb (Shape.Idx.first (numel1_S1.symm ▸ Nat.one_pos)))
    match a with
    | ⟨0, _⟩ => exact (Nat.mul_one _).trans_le hw
    | ⟨1, _⟩ => show (0 + 1) * 128 ≤ 128; decide
    | ⟨2, _⟩ => show (0 + 1) * 256 ≤ 256; decide

end ideal

end Cert.Decode
-- ==== Proof.Heads.lean ====
/- The kernel's body, written once for every head. The body unrolls its 128 heads; here one head is a function of its
   number, and what the body's stores leave in its three output blocks is shown to be the list of these heads' values. -/
module

public import proofs.«01_k».proof.Proof.Gen.KernelIdeal.Frame.RunA
public import Idealize.ShloMosaic.Lib.WritesUnit

@[expose] public section

set_option maxRecDepth 16384

noncomputable section

namespace Cert.Decode

open Cert.KernelIdeal Cert.KernelIdeal.Gen
open Idealize.ShloMosaic Idealize.ShloMosaic.TcCoe Idealize.ShloMosaic.Tactic

variable {F : FTy → Type} [FloatOps F]

theorem slices_lane (h : Fin 128) : S1x128.Slices ![0, h.val] S1x1 :=
  ⟨rfl, fun a => match a with | ⟨0, _⟩ => Nat.le_refl 1 | ⟨1, _⟩ => h.isLt⟩

theorem slices_column (h : Fin 128) : S64x128.Slices ![0, h.val] S64x1 :=
  ⟨rfl, fun a => match a with | ⟨0, _⟩ => Nat.le_refl 64 | ⟨1, _⟩ => h.isLt⟩

theorem slices_group (h : Fin 128) : S8x256.Slices ![h.val / 16, 0] S1x256 :=
  ⟨rfl, fun a => match a with | ⟨0, _⟩ => (by show h.val / 16 + 1 ≤ 8; omega) | ⟨1, _⟩ => Nat.le_refl 256⟩

theorem inb_codes (h : Fin 128) : ∀ a, (![0, h.val, 0, 0] : Fin 4 → Nat) a + S1x1x64x256.size a ≤ S1x128x64x256.size a :=
  fun a => match a with | ⟨0, _⟩ => Nat.le_refl 1 | ⟨1, _⟩ => h.isLt | ⟨2, _⟩ => Nat.le_refl 64 | ⟨3, _⟩ => Nat.le_refl 256

theorem inb_scale (h : Fin 128) : ∀ a, (![0, h.val, 0] : Fin 3 → Nat) a + S1x1x256.size a ≤ S1x128x256.size a :=
  fun a => match a with | ⟨0, _⟩ => Nat.le_refl 1 | ⟨1, _⟩ => h.isLt | ⟨2, _⟩ => Nat.le_refl 256

/-- Head `h`'s new state, transposed (channel by state element): its old codes times the decayed scale, plus the outer
    product of the head's input column with its group's row of B. -/
def headState (h : Fin 128) (decay : FVec F S1x128 .f32) (dx : FVec F S64x128 .f32) (b : FVec F S8x256 .f32)
    (codes : Vec F S1x1x64x256 .fp8e4m3) (scale : Vec F S1x1x256 .f32) : FVec F S64x256 .f32 :=
  addf
    (mulf (extf .f32 (shapeCast S64x256 codes shapeCasts_S1x1x64x256_S64x256) bitsLt_fp8e4m3_f32)
      (broadcastTo S64x256
        (mulf (broadcastTo S1x256 (extractStridedSlice S1x1 ![0, h.val] decay (slices_lane h)) broadcasts_S1x1_S1x256)
          (shapeCast S1x256 scale shapeCasts_S1x1x256_S1x256)) broadcasts_S1x256_S64x256))
    (mulf (broadcastTo S64x256 (extractStridedSlice S64x1 ![0, h.val] dx (slices_column h)) broadcasts_S64x1_S64x256)
      (broadcastTo S64x256 (extractStridedSlice S1x256 ![h.val / 16, 0] b (slices_group h)) broadcasts_S1x256_S64x256))

/-- The least scale of every column of a head's state: its largest magnitude over the 64 channels, over 448. -/
def least (v : FVec F S64x256 .f32) : FVec F S1x256 .f32 :=
  mulf (shapeCast S1x256 (multiReduction .maximumf [0] S256 (absf v) 0xFF800000#32 reduces_S64x256_S256 (.inl rfl) rfl) shapeCasts_S256_S1x256)
    (broadcast S1x256 (Scalar.ofBits .f32 0x3B124925#32))

/-- The exponent fields of the least scales, in place: the number of exponents at or below each, shifted. -/
def fields (v : FVec F S64x256 .f32) : IVec S1x256 32 :=
  shli
    (shapeCast S1x256
      (multiReductionI .add [0] S256
        (extui 32
          (cmpf .oge (broadcastTo S252x256 (least v) broadcasts_S1x256_S252x256)
            (bitcastToFloat .f32
              (shli (addi (iota .tc S252x256 32 [0] iota_S252x256_d0_w32) (broadcast S252x256 1#32)) (broadcast S252x256 23#32))))
          natLt_1_32)
        0#32 reduces_S252x256_S256 rfl)
      shapeCasts_S256_S1x256)
    (broadcast S1x256 23#32)

/-- Where the least scale has no normal exponent, so that the scale is 1. -/
def noField (v : FVec F S64x256 .f32) : IVec S1x256 1 := cmpi .eq (fields v) (broadcast S1x256 0#32)

/-- The scales of a head's state. -/
def scales (v : FVec F S64x256 .f32) : FVec F S1x256 .f32 :=
  bitcastToFloat .f32 (select (noField v) (broadcast S1x256 1065353216#32) (addi (fields v) (broadcast S1x256 8388608#32)))

/-- Their inverses. -/
def inverses (v : FVec F S64x256 .f32) : FVec F S1x256 .f32 :=
  bitcastToFloat .f32 (select (noField v) (broadcast S1x256 1065353216#32) (subi (broadcast S1x256 2122317824#32) (fields v)))

/-- What head `h` stores of the scales, given its state. -/
def storedScale (v : FVec F S64x256 .f32) : FVec F S1x1x256 .f32 :=
  shapeCast S1x1x256 (scales v) shapeCasts_S1x256_S1x1x256

/-- What head `h` stores of the codes, given its state. -/
def storedCodes (v : FVec F S64x256 .f32) : FVec F S1x1x64x256 .fp8e4m3 :=
  shapeCast S1x1x64x256
    (truncf .fp8e4m3
      (minimumf (broadcast S64x256 (Scalar.ofBits .f32 0x43E00000#32))
        (maximumf (broadcast S64x256 (Scalar.ofBits .f32 0xC3E00000#32))
          (mulf v (broadcastTo S64x256 (inverses v) broadcasts_S1x256_S64x256))))
      bitsLt_fp8e4m3_f32)
    shapeCasts_S64x256_S1x1x64x256

/-- Head `h`'s output column: its state contracted with its group's row of C. -/
def column (h : Fin 128) (cc : FVec F S8x256 .f32) (v : FVec F S64x256 .f32) : FVec F S64x1 .f32 :=
  shapeCast S64x1
    (multiReduction .add [1] S64
      (mulf v (broadcastTo S64x256 (extractStridedSlice S1x256 ![h.val / 16, 0] cc (slices_group h)) broadcasts_S1x256_S64x256))
      0x00000000#32 reduces_S64x256_S64 (.inl rfl) rfl)
    shapeCasts_S64_S64x1

/-- The output after the first `j` heads: each adds its column to its own lane. -/
def lanes (cc : FVec F S8x256 .f32) (v : Fin 128 → FVec F S64x256 .f32) (dxx : FVec F S64x128 .f32) :
    (j : ℕ) → j ≤ 128 → FVec F S64x128 .f32
  | 0, _ => dxx
  | j + 1, hj =>
    select (cmpi .eq (iota .tc S64x128 32 [1] iota_S64x128_d1_w32) (broadcast S64x128 (BitVec.ofNat 32 j)))
      (addf (lanes cc v dxx j (Nat.le_of_succ_le hj)) (broadcastTo S64x128 (column ⟨j, hj⟩ cc (v ⟨j, hj⟩)) broadcasts_S64x1_S64x128))
      (lanes cc v dxx j (Nat.le_of_succ_le hj))

/-- What the body stores of the output. -/
def storedY (cc : FVec F S8x256 .f32) (v : Fin 128 → FVec F S64x256 .f32) (dxx : FVec F S64x128 .f32) : FVec F S1x64x128 .bf16 :=
  shapeCast S1x64x128 (truncf .bf16 (lanes cc v dxx 128 (Nat.le_refl 128)) bitsLt_bf16_f32) shapeCasts_S64x128_S1x64x128

section run

variable (c : Dev nD) (i : grid0.Coords) (arg2 : Memref sig .tc .vmem S1x64x128 .bf16) (harg2 : arg2.IsWhole) (arg3 : Memref sig .tc .vmem S1x1x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x8x256 .bf16) (harg6 : arg6.IsWhole) (arg7 : Memref sig .tc .vmem S1x8x256 .bf16) (harg7 : arg7.IsWhole) (arg8 : Memref sig .tc .vmem S1x128 .f32) (harg8 : arg8.IsWhole) (arg9 : Memref sig .tc .vmem S1x128x64x256 .fp8e4m3) (harg9 : arg9.IsWhole) (arg10 : Memref sig .tc .vmem S1x128x256 .f32) (harg10 : arg10.IsWhole) (arg11 : Memref sig .tc .vmem S1x64x128 .bf16) (harg11 : arg11.IsWhole) (arg12 : Memref sig .tc .vmem S1x128x64x256 .fp8e4m3) (harg12 : arg12.IsWhole) (arg13 : Memref sig .tc .vmem S1x128x256 .f32) (harg13 : arg13.IsWhole)
    (x0 : Vec F S1x64x128 .bf16) (x1 : Vec F S1x1x128 .bf16) (x2 : Vec F S1x128 .f32) (x3 : Vec F S1x128 .f32) (x4 : Vec F S1x8x256 .bf16) (x5 : Vec F S1x8x256 .bf16) (x6 : Vec F S1x128 .f32) (x7 : Vec F S1x128x64x256 .fp8e4m3) (x8 : Vec F S1x128x256 .f32) (xt0 : TbBuf0 (F := F) c tbM0_0)

/-- The body's load of the whole of an input block. -/
abbrev whole0 := View.readAt (Elt F) arg2.view (Rect.unit ![0, 0, 0] S1x64x128.size inb_S1x64x128_S1x64x128_0_0_0).toLoadRect (harg2.unread x0)
abbrev whole1 := View.readAt (Elt F) arg3.view (Rect.unit ![0, 0, 0] S1x1x128.size inb_S1x1x128_S1x1x128_0_0_0).toLoadRect (harg3.unread x1)
abbrev whole2 := View.readAt (Elt F) arg4.view (Rect.unit ![0, 0] S1x128.size inb_S1x128_S1x128_0_0).toLoadRect (harg4.unread x2)
abbrev whole4 := View.readAt (Elt F) arg6.view (Rect.unit ![0, 0, 0] S1x8x256.size inb_S1x8x256_S1x8x256_0_0_0).toLoadRect (harg6.unread x4)
/-- The body's load of head `h`'s codes, and of its scales. -/
abbrev part7 (h : Fin 128) := View.readAt (Elt F) arg9.view (Rect.unit (s := S1x128x64x256) ![0, h.val, 0, 0] S1x1x64x256.size (inb_codes h)).toLoadRect (harg9.unread x7)
abbrev part8 (h : Fin 128) := View.readAt (Elt F) arg10.view (Rect.unit (s := S1x128x256) ![0, h.val, 0] S1x1x256.size (inb_scale h)).toLoadRect (harg10.unread x8)

/-- Head `h`'s state, of the blocks that the body loads. -/
def loadedState (h : Fin 128) : FVec F S64x256 .f32 :=
  headState h (k0_pay3 (whole1 arg3 harg3 x1) (whole2 arg4 harg4 x2) (whole2 arg5 harg5 x3))
    (k0_pay4 (whole0 arg2 harg2 x0) (whole1 arg3 harg3 x1) (whole2 arg4 harg4 x2)) (k0_pay5 (whole4 arg6 harg6 x4))
    (part7 arg9 harg9 x7 h) (part8 arg10 harg10 x8 h)

/-- The codes' block ends with the 128 heads' codes, one store each. -/
theorem codes_pieces :
    (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 xt0).2.1
      = View.tilePieces (s := S1x128x64x256) S1x1x64x256.size (fun h : Fin 128 => ![0, h.val, 0, 0]) inb_codes
          (fun h => storedCodes (loadedState arg2 harg2 arg3 harg3 arg4 harg4 arg5 harg5 arg6 harg6 arg9 harg9 arg10 harg10 x0 x1 x2 x3 x4 x7 x8 h)) 128 (Nat.le_refl 128) := by
  sl_kernel_rfl

/-- The scales' block ends with the 128 heads' scales, one store each. -/
theorem scale_pieces :
    (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 xt0).2.2.1
      = View.tilePieces (s := S1x128x256) S1x1x256.size (fun h : Fin 128 => ![0, h.val, 0]) inb_scale
          (fun h => storedScale (loadedState arg2 harg2 arg3 harg3 arg4 harg4 arg5 harg5 arg6 harg6 arg9 harg9 arg10 harg10 x0 x1 x2 x3 x4 x7 x8 h)) 128 (Nat.le_refl 128) := by
  sl_kernel_rfl

/-- The output's block ends with the one store of every lane. -/
theorem y_pieces :
    (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 xt0).1
      = [⟨Rect.unit ![0, 0, 0] S1x64x128.size inb_S1x64x128_S1x64x128_0_0_0,
          storedY (k0_pay6 (whole4 arg7 harg7 x5))
            (loadedState arg2 harg2 arg3 harg3 arg4 harg4 arg5 harg5 arg6 harg6 arg9 harg9 arg10 harg10 x0 x1 x2 x3 x4 x7 x8)
            (k0_pay7 (whole0 arg2 harg2 x0) (whole2 arg8 harg8 x6))⟩] := by
  sl_kernel_rfl

end run

end Cert.Decode

end
-- ==== Proof.Quant.lean ====
/-
  The block scale's exponent, read two ways over the extended reals. The kernel counts the powers of two not above t and
  puts the count in a float32 word's exponent field; the mathematics takes ⌊log t / log 2⌋ + 1. Below the least normal
  number both give the exponent zero, and from there on the two agree, the count stopping where the mathematics does.
-/
module

public import Idealize.ShloMosaic.Lib.StableHlo
public import Idealize.ShloMosaic.PureOps
public import Idealize.ShloMosaic.PureOps.Ideal

@[expose] public section

noncomputable section

namespace Cert.Decode

open Idealize.ShloMosaic

/-- The parts of a float32 word whose exponent field is `n` and whose other bits are clear. -/
theorem field_parts : ∀ n : Fin 255,
    (BitVec.ofNat 32 n.val <<< 23).extractLsb' (8 + 23) 1 = 0#1
      ∧ ((BitVec.ofNat 32 n.val <<< 23).extractLsb' 23 8).toNat = n.val
      ∧ ((BitVec.ofNat 32 n.val <<< 23).extractLsb' 0 23).toNat = 0 := by
  decide +kernel

/-- The word with exponent field `n`, `1 ≤ n ≤ 254`, denotes `2 ^ (n - 127)`. -/
theorem ofBits_field (n : ℕ) (h1 : 1 ≤ n) (h2 : n ≤ 254) :
    Ideal.ofBits .f32 (BitVec.ofNat 32 n <<< 23) = (((2 : ℝ) ^ ((n : ℤ) - 127) : ℝ) : EReal) := by
  obtain ⟨hs, he, hf⟩ := field_parts ⟨n, by omega⟩
  simp only at hs he hf
  show Ideal.ieee 8 23 (BitVec.ofNat 32 n <<< 23) = _
  unfold Ideal.ieee
  simp only [hs, he, hf]
  rw [if_neg (by omega), if_neg (by omega)]
  have e : ((n : ℤ) - 127) = 23 + ((n : ℤ) - (2 ^ (8 - 1) - 1) - 23) := by norm_num
  rw [e, zpow_add₀ (by norm_num : (2 : ℝ) ≠ 0)]
  norm_num

/-- How many of the float32 powers of two `2 ^ (-126) … 2 ^ 125` are at most `t`. -/
def field (t : EReal) : ℕ :=
  (Finset.univ.filter fun k : Fin 252 => Ideal.ofBits .f32 (BitVec.ofNat 32 (k.val + 1) <<< 23) ≤ t).card

theorem field_le (t : EReal) : field t ≤ 252 :=
  (Finset.card_le_univ _).trans (by simp)

/-- The least normal float32. -/
theorem least_eq : Ideal.ofBits .f32 0x00800000#32 = (((2 : ℝ) ^ (-126 : ℤ) : ℝ) : EReal) := by
  have := ofBits_field 1 le_rfl (by norm_num)
  simpa using this

/-- Below the least normal number no power is at most `t`. -/
theorem field_low (t : EReal) (ht : t < Ideal.ofBits .f32 0x00800000#32) : field t = 0 := by
  unfold field
  rw [Finset.card_eq_zero, Finset.filter_eq_empty_iff]
  intro k _ hk
  rw [ofBits_field _ (by omega) (by have := k.isLt; omega)] at hk
  rw [least_eq] at ht
  have h := lt_of_le_of_lt hk ht
  rw [EReal.coe_lt_coe_iff] at h
  refine absurd h (not_lt.2 (zpow_le_zpow_right₀ (by norm_num) ?_))
  push_cast; omega

/-- A power of two is at most `r` exactly when its exponent is at most `⌊log r / log 2⌋`. -/
theorem zpow_le_iff (r : ℝ) (hr : 0 < r) (j : ℤ) : (2 : ℝ) ^ j ≤ r ↔ j ≤ ⌊Real.log r / Real.log 2⌋ := by
  have h2 : (0 : ℝ) < Real.log 2 := Real.log_pos (by norm_num)
  rw [Int.le_floor, le_div_iff₀ h2, ← Real.log_zpow, Real.log_le_log_iff (by positivity) hr]

/-- From the least normal number on, the count is the exponent of `t` in the field's offset, at most 252. -/
theorem field_real (r : ℝ) (hr : (2 : ℝ) ^ (-126 : ℤ) ≤ r) :
    (field (r : EReal) : ℤ) = min (⌊Real.log r / Real.log 2⌋ + 127) 252 ∧ 1 ≤ field (r : EReal) := by
  have hpos : 0 < r := lt_of_lt_of_le (by positivity) hr
  have hL : (-126 : ℤ) ≤ ⌊Real.log r / Real.log 2⌋ := (zpow_le_iff r hpos _).1 hr
  generalize hLe : ⌊Real.log r / Real.log 2⌋ = L at *
  have hset : (Finset.univ.filter fun k : Fin 252 =>
      Ideal.ofBits .f32 (BitVec.ofNat 32 (k.val + 1) <<< 23) ≤ (r : EReal))
      = Finset.univ.filter fun k : Fin 252 => k.val < (L + 127).toNat := by
    apply Finset.filter_congr
    intro k _
    rw [ofBits_field _ (by omega) (by have := k.isLt; omega), EReal.coe_le_coe_iff, zpow_le_iff r hpos, hLe]
    push_cast; omega
  have hcard : field (r : EReal) = min (L + 127).toNat 252 := by
    unfold field
    rw [hset, Fin.card_filter_val_lt]
    exact min_comm _ _
  rw [hcard]; constructor <;> omega

theorem field_top : field ⊤ = 252 := by
  unfold field; simp

/-- The mathematics' exponent before it is read below the least normal number: `⌊log t / log 2⌋ + 1`, at most 126. -/
def expo (t : EReal) : EReal :=
  min (Ideal.liftRound Int.floor (Ideal.div (Ideal.log t) (Ideal.log (Ideal.ofBits .f32 0x40000000#32)))
    + Ideal.ofBits .f32 0x3F800000#32) (Ideal.ofBits .f32 0x42FC0000#32)

theorem two_eq : Ideal.ofBits .f32 0x40000000#32 = ((2 : ℝ) : EReal) := by
  have := ofBits_field 128 (by norm_num) (by norm_num)
  simpa using this

theorem one_eq : Ideal.ofBits .f32 0x3F800000#32 = ((1 : ℝ) : EReal) := by
  have := ofBits_field 127 (by norm_num) (by norm_num)
  simpa using this

theorem zero_eq : Ideal.ofBits .f32 0x00000000#32 = ((0 : ℝ) : EReal) := by
  show Ideal.ieee 8 23 0x00000000#32 = _
  simp [Ideal.ieee]

theorem lim_eq : Ideal.ofBits .f32 0x42FC0000#32 = ((126 : ℝ) : EReal) := by
  show Ideal.ieee 8 23 0x42FC0000#32 = _
  simp [Ideal.ieee]
  rw [← EReal.coe_mul]
  norm_num

/-- From the least normal number on, the count is the mathematics' exponent, 126 added. -/
theorem expo_high (t : EReal) (ht : ¬ t < Ideal.ofBits .f32 0x00800000#32) :
    expo t = (((field t : ℤ) - 126 : ℤ) : ℝ) ∧ 1 ≤ field t := by
  rw [least_eq, not_lt] at ht
  have h2 : (0 : ℝ) < Real.log 2 := Real.log_pos (by norm_num)
  have hl2 : Ideal.log (((2 : ℝ) : EReal)) = ((Real.log 2 : ℝ) : EReal) := by
    show (if (2 : ℝ) ≤ 0 then ⊥ else ((Real.log 2 : ℝ) : EReal)) = _
    rw [if_neg (by norm_num)]
  have hne : ((Real.log 2 : ℝ) : EReal) ≠ 0 := by
    intro h; exact h2.ne' (by exact_mod_cast h)
  induction t with
  | bot => simp at ht
  | top =>
    refine ⟨?_, by rw [field_top]; norm_num⟩
    unfold expo
    rw [two_eq, one_eq, lim_eq, hl2, field_top]
    have : Ideal.div (Ideal.log ⊤) ((Real.log 2 : ℝ) : EReal) = ⊤ := by
      show Ideal.div ⊤ _ = _
      unfold Ideal.div
      rw [if_neg hne, ← EReal.coe_inv, EReal.top_mul_coe_of_pos (inv_pos.2 h2)]
    rw [this]
    show min ((⊤ : EReal) + _) _ = _
    rw [EReal.top_add_coe, min_eq_right le_top]
    norm_num
  | coe r =>
    rw [EReal.coe_le_coe_iff] at ht
    have hpos : 0 < r := lt_of_lt_of_le (by positivity) ht
    obtain ⟨hf, h1⟩ := field_real r ht
    refine ⟨?_, h1⟩
    unfold expo
    rw [two_eq, one_eq, lim_eq, hl2, hf]
    have hl : Ideal.log (r : EReal) = ((Real.log r : ℝ) : EReal) := by
      show (if r ≤ 0 then ⊥ else ((Real.log r : ℝ) : EReal)) = _
      rw [if_neg (not_le.2 hpos)]
    rw [hl]
    unfold Ideal.div
    rw [if_neg hne, ← EReal.coe_inv, ← EReal.coe_mul, ← div_eq_mul_inv]
    show min (((⌊Real.log r / Real.log 2⌋ : ℝ) : EReal) + _) _ = _
    rw [← EReal.coe_add, ← EReal.coe_strictMono.monotone.map_min]
    congr 1
    push_cast
    rw [← min_sub_sub_right]
    congr 1 <;> ring

/-- The count in the exponent field. -/
def fieldWord (t : EReal) : BitVec 32 := BitVec.ofNat 32 (field t) <<< 23

theorem word_ne_zero : ∀ n : Fin 253, 1 ≤ n.val → BitVec.ofNat 32 n.val <<< 23 ≠ 0#32 := by decide +kernel

theorem word_up : ∀ n : Fin 253, BitVec.ofNat 32 n.val <<< 23 + 0x00800000#32 = BitVec.ofNat 32 (n.val + 1) <<< 23 := by
  decide +kernel

theorem word_down : ∀ n : Fin 253, 0x7E800000#32 - BitVec.ofNat 32 n.val <<< 23 = BitVec.ofNat 32 (253 - n.val) <<< 23 := by
  decide +kernel

theorem fieldWord_low (t : EReal) (ht : t < Ideal.ofBits .f32 0x00800000#32) : fieldWord t = 0#32 := by
  unfold fieldWord; rw [field_low t ht]; rfl

theorem fieldWord_high (t : EReal) (ht : ¬ t < Ideal.ofBits .f32 0x00800000#32) : fieldWord t ≠ 0#32 :=
  word_ne_zero ⟨field t, by have := field_le t; omega⟩ (expo_high t ht).2

/-- Base two at an integer. -/
theorem exp2_int (j : ℤ) : Ideal.exp2 ((((j : ℤ) : ℝ) : EReal)) = (((2 : ℝ) ^ j : ℝ) : EReal) := by
  show ((Real.rpow 2 (j : ℝ) : ℝ) : EReal) = _
  rw [show Real.rpow 2 (j : ℝ) = (2 : ℝ) ^ (j : ℝ) from rfl, Real.rpow_intCast]

/-- The kernel's scale is two to the mathematics' exponent. -/
theorem scale_high (t : EReal) (ht : ¬ t < Ideal.ofBits .f32 0x00800000#32) :
    Ideal.ofBits .f32 (fieldWord t + 0x00800000#32) = Ideal.exp2 (expo t) := by
  obtain ⟨he, h1⟩ := expo_high t ht
  have hle := field_le t
  unfold fieldWord
  rw [word_up ⟨field t, by omega⟩, ofBits_field _ (by simp) (by simp only; omega), he, exp2_int]
  congr 2; push_cast; ring

/-- Its reciprocal is two to the exponent's negative. -/
theorem inv_high (t : EReal) (ht : ¬ t < Ideal.ofBits .f32 0x00800000#32) :
    Ideal.ofBits .f32 (0x7E800000#32 - fieldWord t) = Ideal.exp2 (Ideal.ofBits .f32 0x00000000#32 - expo t) := by
  obtain ⟨he, h1⟩ := expo_high t ht
  have hle := field_le t
  unfold fieldWord
  rw [word_down ⟨field t, by omega⟩, ofBits_field _ (by simp only; omega) (by simp only; omega), he, zero_eq,
    ← EReal.coe_sub, zero_sub, ← Int.cast_neg, exp2_int]
  congr 2; simp only; omega

/-- Below the least normal number both are one: two to the exponent zero. -/
theorem exp2_zero : Ideal.exp2 (Ideal.ofBits .f32 0x00000000#32) = Ideal.ofBits .f32 0x3F800000#32 := by
  rw [zero_eq, one_eq]
  have := exp2_int 0
  simpa using this

theorem exp2_zero_sub : Ideal.exp2 (Ideal.ofBits .f32 0x00000000#32 - Ideal.ofBits .f32 0x00000000#32)
    = Ideal.ofBits .f32 0x3F800000#32 := by
  rw [← exp2_zero, zero_eq]
  norm_num

end Cert.Decode

end
-- ==== Proof.Spec.lean ====
/- The step's mathematics, one number at a time: what each result holds, in terms of the arguments. -/
module

public import proofs.«01_k».proof.Proof.Quant

@[expose] public section

noncomputable section

namespace Cert.Decode

open Idealize.ShloMosaic

/-- The step size: softplus of the input with its bias. -/
def stepOf (dt bias : EReal) : EReal :=
  max (dt + bias) 0 + Ideal.log1p (Ideal.exp (0 - FloatOps.absf (F := Ideal) (φ := .f32) (dt + bias)))

/-- The decay of a head over one step. -/
def decayOf (alog delta : EReal) : EReal := Ideal.exp ((0 - Ideal.exp alog) * delta)

/-- The least scale of a row of 64: its largest magnitude over 448. -/
def leastOf (v : Fin 64 → EReal) : EReal :=
  Finset.univ.fold max (Ideal.ofBits .f32 0xFF800000#32) (fun p => FloatOps.absf (F := Ideal) (φ := .f32) (v p))
    * Ideal.ofBits .f32 0x3B124925#32

/-- The exponent of a row's scale: the next above its least scale, and 0 below the normal range. -/
def expoOf (t : EReal) : EReal :=
  Scalar.select (BitVec.ofBool (decide (t < Ideal.ofBits .f32 0x00800000#32))) 0 (expo t)

/-- A row's scale. -/
def scaleOf (t : EReal) : EReal := Ideal.exp2 (expoOf t)

/-- The inverse of a row's scale. -/
def inverseOf (t : EReal) : EReal := Ideal.exp2 (0 - expoOf t)

/-- A number's code under an inverse scale, within the code format's range. -/
def codeOf (v inv : EReal) : EReal :=
  min (Ideal.ofBits .f32 0x43E00000#32) (max (Ideal.ofBits .f32 0xC3E00000#32) (v * inv))

/-- The arguments, the pool's slots already picked out for every row. -/
structure Args where
  x : Fin 144 → Fin 128 → Fin 64 → EReal
  dt : Fin 144 → Fin 128 → EReal
  bias : Fin 128 → EReal
  alog : Fin 128 → EReal
  b : Fin 144 → Fin 8 → Fin 256 → EReal
  c : Fin 144 → Fin 8 → Fin 256 → EReal
  d : Fin 128 → EReal
  codes : Fin 144 → Fin 128 → Fin 256 → Fin 64 → EReal
  scale : Fin 144 → Fin 128 → Fin 256 → EReal

/-- The group of a head: 16 heads share one row of B and of C. -/
def group (h : Fin 128) : Fin 8 := ⟨h.val / 16, by omega⟩

namespace Args

variable (A : Args) (r : Fin 144) (h : Fin 128)

/-- The new state. -/
def state (n : Fin 256) (p : Fin 64) : EReal :=
  decayOf (A.alog h) (stepOf (A.dt r h) (A.bias h)) * (A.codes r h n p * A.scale r h n)
    + stepOf (A.dt r h) (A.bias h) * A.x r h p * A.b r (group h) n

/-- The scales that the state is stored with. -/
def newScale (n : Fin 256) : EReal := scaleOf (leastOf (A.state r h n))

/-- The codes that the state is stored as. -/
def newCodes (n : Fin 256) (p : Fin 64) : EReal := codeOf (A.state r h n p) (inverseOf (leastOf (A.state r h n)))

/-- The output. -/
def y (p : Fin 64) : EReal := ∑ n, A.state r h n p * A.c r (group h) n + A.d h * A.x r h p

end Args

/-- A word that is not zero compares unequal with zero. -/
theorem cmpi_zero_ne {w : BitVec 32} (h : w ≠ 0#32) : IntOp.cmpi .eq w 0#32 = 0#1 := by
  show BitVec.ofBool (w == 0#32) = 0#1
  rw [beq_eq_false_iff_ne.mpr h]
  rfl

theorem exp2_nil : Ideal.exp2 0 = Ideal.ofBits .f32 0x3F800000#32 := by
  rw [← exp2_zero, zero_eq, EReal.coe_zero]

/-- The word of a least scale's field, one exponent up, or of 1 where there is no field, is the scale. -/
theorem scale_word (t : EReal) :
    Ideal.ofBits .f32 (Scalar.select (IntOp.cmpi .eq (fieldWord t) 0#32) 0x3F800000#32 (IntOp.addi (fieldWord t) 0x00800000#32)) = scaleOf t := by
  by_cases ht : t < Ideal.ofBits .f32 0x00800000#32
  · rw [fieldWord_low t ht]
    unfold scaleOf expoOf
    rw [decide_eq_true ht]
    exact exp2_nil.symm
  · rw [cmpi_zero_ne (fieldWord_high t ht)]
    unfold scaleOf expoOf
    rw [decide_eq_false ht]
    exact scale_high t ht

/-- The word from the other end of the exponents is its inverse. -/
theorem inverse_word (t : EReal) :
    Ideal.ofBits .f32 (Scalar.select (IntOp.cmpi .eq (fieldWord t) 0#32) 0x3F800000#32 (IntOp.subi 0x7E800000#32 (fieldWord t))) = inverseOf t := by
  by_cases ht : t < Ideal.ofBits .f32 0x00800000#32
  · rw [fieldWord_low t ht]
    unfold inverseOf expoOf
    rw [decide_eq_true ht]
    show Ideal.ofBits .f32 0x3F800000#32 = Ideal.exp2 (0 - 0)
    rw [sub_zero]
    exact exp2_nil.symm
  · rw [cmpi_zero_ne (fieldWord_high t ht)]
    unfold inverseOf expoOf
    rw [decide_eq_false ht]
    have := inv_high t ht
    rw [zero_eq, EReal.coe_zero] at this
    exact this

end Cert.Decode

end
-- ==== Proof.HeadValue.lean ====
/- What one head of the kernel computes, over the extended reals, read at one index at a time. -/
module

public import proofs.«01_k».proof.Proof.Heads
public import proofs.«01_k».proof.Proof.Spec
public import Idealize.ShloMosaic.Lib.Pointwise
public import Idealize.ShloMosaic.Lib.IndicatorCount

@[expose] public section

set_option maxRecDepth 16384

noncomputable section

namespace Cert.Decode

open Cert.KernelIdeal Cert.KernelIdeal.Gen
open Idealize.ShloMosaic Idealize.ShloMosaic.TcCoe Idealize.ShloMosaic.Tactic

theorem least_apply (v : FVec Ideal S64x256 .f32) (n : Fin 256) :
    least v (ix2 0 n) = leastOf fun p => v (ix2 p n) := by
  pointwise [least]
  rfl

/-- The word of the `k`-th power of two that the least scales are compared with. -/
theorem power_word : ∀ k : Fin 252, IntOp.shli ArithUnit.vector (IntOp.addi (BitVec.ofNat 32 k.val) 1#32) 23#32
    = BitVec.ofNat 32 (k.val + 1) <<< 23 := by decide +kernel

theorem shift_word (w : BitVec 32) : IntOp.shli ArithUnit.vector w 23#32 = w <<< 23 := rfl

theorem of_ofBool {p : Prop} [Decidable p] (h : BitVec.ofBool (decide p) = 1#1) : p := by
  by_contra hp
  rw [decide_eq_false hp] at h
  exact absurd h (by decide)

theorem fields_apply (v : FVec Ideal S64x256 .f32) (n : Fin 256) :
    fields v (ix2 0 n) = fieldWord (least v (ix2 0 n)) := by
  pointwise [fields]
  rw [Idealize.ShloMosaic.IndicatorCount.fold_addi_setWidth_eq_card]
  have e : (Finset.univ.filter fun k : Fin 252 => BitVec.ofBool (decide (Ideal.ofBits .f32
      (IntOp.shli ArithUnit.vector (IntOp.addi (BitVec.ofNat 32 k.val) 1#32) 23#32) ≤ least v (ix2 0 n))) = 1#1)
      = Finset.univ.filter fun k : Fin 252 => Ideal.ofBits .f32 (BitVec.ofNat 32 (k.val + 1) <<< 23) ≤ least v (ix2 0 n) :=
    Finset.filter_congr fun k _ => by
      rw [power_word k]
      exact ⟨of_ofBool, fun h => by rw [decide_eq_true h]; rfl⟩
  exact (congrArg (fun s : Finset (Fin 252) => IntOp.shli ArithUnit.vector (BitVec.ofNat 32 s.card) 23#32) e).trans (shift_word _)

theorem scales_apply (v : FVec Ideal S64x256 .f32) (n : Fin 256) :
    scales v (ix2 0 n) = scaleOf (leastOf fun p => v (ix2 p n)) := by
  rw [← least_apply, ← scale_word, ← fields_apply]
  pointwise [scales, noField]

theorem inverses_apply (v : FVec Ideal S64x256 .f32) (n : Fin 256) :
    inverses v (ix2 0 n) = inverseOf (leastOf fun p => v (ix2 p n)) := by
  rw [← least_apply, ← inverse_word, ← fields_apply]
  pointwise [inverses, noField]

theorem storedScale_apply (v : FVec Ideal S64x256 .f32) (n : Fin 256) :
    storedScale v (ix3 0 0 n) = scaleOf (leastOf fun p => v (ix2 p n)) := by
  rw [← scales_apply]
  pointwise [storedScale]

theorem storedCodes_apply (v : FVec Ideal S64x256 .f32) (p : Fin 64) (n : Fin 256) :
    storedCodes v (ix4 0 0 p n) = codeOf (v (ix2 p n)) (inverseOf (leastOf fun q => v (ix2 q n))) := by
  rw [← inverses_apply]
  pointwise [storedCodes]
  rfl

theorem column_apply (h : Fin 128) (cc : FVec Ideal S8x256 .f32) (v : FVec Ideal S64x256 .f32) (p : Fin 64) :
    column h cc v (ix2 p 0) = ∑ n, v (ix2 p n) * cc (ix2 (group h) n) := by
  pointwise [column]
  rfl

/-- Below lane `h` the first `j` heads leave the lane as it was; from head `h` on it has head `h`'s column. -/
theorem lanes_apply (cc : FVec Ideal S8x256 .f32) (v : Fin 128 → FVec Ideal S64x256 .f32) (dxx : FVec Ideal S64x128 .f32)
    (p : Fin 64) (h : Fin 128) : ∀ (j : ℕ) (hj : j ≤ 128), lanes cc v dxx j hj (ix2 p h)
      = if h.val < j then dxx (ix2 p h) + column h cc (v h) (ix2 p 0) else dxx (ix2 p h)
  | 0, _ => by rw [if_neg (Nat.not_lt_zero _)]; rfl
  | j + 1, hj => by
    have ih := lanes_apply cc v dxx p h j (Nat.le_of_succ_le hj)
    rw [lanes]
    pointwise
    rw [ih]
    have e : IntOp.cmpi .eq (BitVec.ofNat 32 h.val) (BitVec.ofNat 32 j) = BitVec.ofBool (decide (h.val = j)) := by
      unfold IntOp.cmpi
      congr 1
      rw [Bool.eq_iff_iff]
      simp only [beq_iff_eq, decide_eq_true_eq]
      constructor
      · intro hh
        have := congrArg BitVec.toNat hh
        have h1 := h.isLt
        rw [BitVec.toNat_ofNat, BitVec.toNat_ofNat, Nat.mod_eq_of_lt (by omega), Nat.mod_eq_of_lt (by omega)] at this
        exact this
      · intro hh; rw [hh]
    rw [e]
    by_cases hh : h.val = j
    · subst hh
      rw [decide_eq_true rfl, if_neg (Nat.lt_irrefl _), if_pos (Nat.lt_succ_self _)]
      rfl
    · rw [decide_eq_false hh]
      show (if h.val < j then _ else _) = _
      by_cases hl : h.val < j
      · rw [if_pos hl, if_pos (Nat.lt_succ_of_lt hl)]
      · rw [if_neg hl, if_neg (by omega)]

theorem storedY_apply (cc : FVec Ideal S8x256 .f32) (v : Fin 128 → FVec Ideal S64x256 .f32) (dxx : FVec Ideal S64x128 .f32)
    (p : Fin 64) (h : Fin 128) :
    storedY cc v dxx (ix3 0 p h) = dxx (ix2 p h) + ∑ n, v h (ix2 p n) * cc (ix2 (group h) n) := by
  rw [← column_apply]
  have := lanes_apply cc v dxx p h 128 (Nat.le_refl 128)
  rw [if_pos h.isLt] at this
  rw [← this]
  pointwise [storedY]

theorem headState_apply (h : Fin 128) (decay : FVec Ideal S1x128 .f32) (dx : FVec Ideal S64x128 .f32) (b : FVec Ideal S8x256 .f32)
    (codes : Vec Ideal S1x1x64x256 .fp8e4m3) (scale : Vec Ideal S1x1x256 .f32) (p : Fin 64) (n : Fin 256) :
    headState h decay dx b codes scale (ix2 p n)
      = codes (ix4 0 0 p n) * (decay (ix2 0 h) * scale (ix3 0 0 n)) + dx (ix2 p h) * b (ix2 (group h) n) := by
  pointwise [headState]
  rfl

theorem step_apply (dt : Vec Ideal S1x1x128 .bf16) (bias : Vec Ideal S1x128 .f32) (h : Fin 128) :
    k0_pay2 dt bias (ix2 0 h) = stepOf (dt (ix3 0 0 h)) (bias (ix2 0 h)) := by
  pointwise [k0_pay2]
  rfl

theorem decay_apply (dt : Vec Ideal S1x1x128 .bf16) (bias alog : Vec Ideal S1x128 .f32) (h : Fin 128) :
    k0_pay3 dt bias alog (ix2 0 h) = decayOf (alog (ix2 0 h)) (stepOf (dt (ix3 0 0 h)) (bias (ix2 0 h))) := by
  rw [← step_apply]
  pointwise [k0_pay3]
  rfl

theorem dx_apply (x : Vec Ideal S1x64x128 .bf16) (dt : Vec Ideal S1x1x128 .bf16) (bias : Vec Ideal S1x128 .f32) (p : Fin 64) (h : Fin 128) :
    k0_pay4 x dt bias (ix2 p h) = stepOf (dt (ix3 0 0 h)) (bias (ix2 0 h)) * x (ix3 0 p h) := by
  rw [← step_apply]
  pointwise [k0_pay4, k0_pay1]

theorem b_apply (b : Vec Ideal S1x8x256 .bf16) (g : Fin 8) (n : Fin 256) : k0_pay5 b (ix2 g n) = b (ix3 0 g n) := by
  pointwise [k0_pay5]

theorem c_apply (b : Vec Ideal S1x8x256 .bf16) (g : Fin 8) (n : Fin 256) : k0_pay6 b (ix2 g n) = b (ix3 0 g n) := by
  pointwise [k0_pay6]

theorem dxx_apply (x : Vec Ideal S1x64x128 .bf16) (d : Vec Ideal S1x128 .f32) (p : Fin 64) (h : Fin 128) :
    k0_pay7 x d (ix2 p h) = d (ix2 0 h) * x (ix3 0 p h) := by
  pointwise [k0_pay7, k0_pay1]

end Cert.Decode

end
-- ==== Proof.Block.lean ====
/- What the kernel's body leaves in its three output blocks, over the extended reals, in terms of the blocks it reads. -/
module

public import proofs.«01_k».proof.Proof.HeadValue
public import proofs.«01_k».proof.Proof.Gen.KernelIdeal.Frame
public import Idealize.ShloMosaic.Lib.WholeRead

@[expose] public section

set_option maxRecDepth 16384

noncomputable section

namespace Cert.Decode

open Cert.KernelIdeal Cert.KernelIdeal.Gen
open Idealize.ShloMosaic Idealize.ShloMosaic.TcCoe Idealize.ShloMosaic.Tactic

/-- The body's nine input blocks at row `r` of the arguments. -/
structure Blocks (A : Args) (r : Fin 144) (x0 : Vec Ideal S1x64x128 .bf16) (x1 : Vec Ideal S1x1x128 .bf16)
    (x2 x3 : Vec Ideal S1x128 .f32) (x4 x5 : Vec Ideal S1x8x256 .bf16) (x6 : Vec Ideal S1x128 .f32)
    (x7 : Vec Ideal S1x128x64x256 .fp8e4m3) (x8 : Vec Ideal S1x128x256 .f32) : Prop where
  x : ∀ p h, x0 (ix3 0 p h) = A.x r h p
  dt : ∀ h, x1 (ix3 0 0 h) = A.dt r h
  bias : ∀ h, x2 (ix2 0 h) = A.bias h
  alog : ∀ h, x3 (ix2 0 h) = A.alog h
  b : ∀ g n, x4 (ix3 0 g n) = A.b r g n
  c : ∀ g n, x5 (ix3 0 g n) = A.c r g n
  d : ∀ h, x6 (ix2 0 h) = A.d h
  codes : ∀ h p n, x7 (ix4 0 h p n) = A.codes r h n p
  scale : ∀ h n, x8 (ix3 0 h n) = A.scale r h n

section run

variable (c : Dev nD) (i : grid0.Coords) (arg2 : Memref sig .tc .vmem S1x64x128 .bf16) (harg2 : arg2.IsWhole) (arg3 : Memref sig .tc .vmem S1x1x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x8x256 .bf16) (harg6 : arg6.IsWhole) (arg7 : Memref sig .tc .vmem S1x8x256 .bf16) (harg7 : arg7.IsWhole) (arg8 : Memref sig .tc .vmem S1x128 .f32) (harg8 : arg8.IsWhole) (arg9 : Memref sig .tc .vmem S1x128x64x256 .fp8e4m3) (harg9 : arg9.IsWhole) (arg10 : Memref sig .tc .vmem S1x128x256 .f32) (harg10 : arg10.IsWhole) (arg11 : Memref sig .tc .vmem S1x64x128 .bf16) (harg11 : arg11.IsWhole) (arg12 : Memref sig .tc .vmem S1x128x64x256 .fp8e4m3) (harg12 : arg12.IsWhole) (arg13 : Memref sig .tc .vmem S1x128x256 .f32) (harg13 : arg13.IsWhole)
    (x0 : Vec Ideal S1x64x128 .bf16) (x1 : Vec Ideal S1x1x128 .bf16) (x2 : Vec Ideal S1x128 .f32) (x3 : Vec Ideal S1x128 .f32) (x4 : Vec Ideal S1x8x256 .bf16) (x5 : Vec Ideal S1x8x256 .bf16) (x6 : Vec Ideal S1x128 .f32) (x7 : Vec Ideal S1x128x64x256 .fp8e4m3) (x8 : Vec Ideal S1x128x256 .f32) (xt0 : TbBuf0 (F := Ideal) c tbM0_0)

theorem whole0_apply (p : Fin 64) (h : Fin 128) : whole0 arg2 harg2 x0 (ix3 0 p h) = x0 (ix3 0 p h) := by
  refine (Memref.IsWhole.readAt_unread harg2 x0 _ _).trans ?_
  exact congrArg x0 (funext fun a => Fin.ext (match a with
    | ⟨0, _⟩ => rfl | ⟨1, _⟩ => (Nat.zero_add _).trans (Nat.one_mul _) | ⟨2, _⟩ => (Nat.zero_add _).trans (Nat.one_mul _)))

theorem whole1_apply (h : Fin 128) : whole1 arg3 harg3 x1 (ix3 0 0 h) = x1 (ix3 0 0 h) := by
  refine (Memref.IsWhole.readAt_unread harg3 x1 _ _).trans ?_
  exact congrArg x1 (funext fun a => Fin.ext (match a with
    | ⟨0, _⟩ => rfl | ⟨1, _⟩ => (Nat.zero_add _).trans (Nat.one_mul _) | ⟨2, _⟩ => (Nat.zero_add _).trans (Nat.one_mul _)))

theorem whole2_apply (h : Fin 128) : whole2 arg4 harg4 x2 (ix2 0 h) = x2 (ix2 0 h) := by
  refine (Memref.IsWhole.readAt_unread harg4 x2 _ _).trans ?_
  exact congrArg x2 (funext fun a => Fin.ext (match a with | ⟨0, _⟩ => rfl | ⟨1, _⟩ => (Nat.zero_add _).trans (Nat.one_mul _)))

theorem whole4_apply (g : Fin 8) (n : Fin 256) : whole4 arg6 harg6 x4 (ix3 0 g n) = x4 (ix3 0 g n) := by
  refine (Memref.IsWhole.readAt_unread harg6 x4 _ _).trans ?_
  exact congrArg x4 (funext fun a => Fin.ext (match a with
    | ⟨0, _⟩ => rfl | ⟨1, _⟩ => (Nat.zero_add _).trans (Nat.one_mul _) | ⟨2, _⟩ => (Nat.zero_add _).trans (Nat.one_mul _)))

theorem part7_apply (h : Fin 128) (p : Fin 64) (n : Fin 256) : part7 arg9 harg9 x7 h (ix4 0 0 p n) = x7 (ix4 0 h p n) := by
  refine (Memref.IsWhole.readAt_unread harg9 x7 _ _).trans ?_
  exact congrArg x7 (funext fun a => Fin.ext (match a with
    | ⟨0, _⟩ => rfl | ⟨1, _⟩ => Nat.add_zero _ | ⟨2, _⟩ => (Nat.zero_add _).trans (Nat.one_mul _) | ⟨3, _⟩ => (Nat.zero_add _).trans (Nat.one_mul _)))

theorem part8_apply (h : Fin 128) (n : Fin 256) : part8 arg10 harg10 x8 h (ix3 0 0 n) = x8 (ix3 0 h n) := by
  refine (Memref.IsWhole.readAt_unread harg10 x8 _ _).trans ?_
  exact congrArg x8 (funext fun a => Fin.ext (match a with
    | ⟨0, _⟩ => rfl | ⟨1, _⟩ => Nat.add_zero _ | ⟨2, _⟩ => (Nat.zero_add _).trans (Nat.one_mul _)))

variable {A : Args} {r : Fin 144} (B : Blocks A r x0 x1 x2 x3 x4 x5 x6 x7 x8)

include B in
/-- A head's state is the mathematics', transposed. -/
theorem loadedState_apply (h : Fin 128) (p : Fin 64) (n : Fin 256) :
    loadedState arg2 harg2 arg3 harg3 arg4 harg4 arg5 harg5 arg6 harg6 arg9 harg9 arg10 harg10 x0 x1 x2 x3 x4 x7 x8 h (ix2 p n)
      = A.state r h n p := by
  unfold loadedState
  rw [headState_apply, decay_apply, dx_apply, b_apply, whole0_apply, whole1_apply, whole2_apply arg4, whole2_apply arg5,
    whole4_apply, part7_apply, part8_apply, B.x, B.dt, B.bias, B.alog, B.b, B.codes, B.scale]
  unfold Args.state
  rw [← mul_assoc, mul_comm (A.codes r h n p), mul_assoc]

include B in
/-- The block of the output. -/
theorem out_y_apply (p : Fin 64) (h : Fin 128) :
    out0_A_9 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 xt0 (ix3 0 p h) = A.y r h p := by
  unfold out0_A_9
  rw [y_pieces]
  refine (View.read_writes_cons_unit_of_mem VO0_9 _ inb_S1x64x128_S1x64x128_0_0_0 _ _ (ix3 0 p h) (ix3 0 p h) rfl
    (fun a => match a with
      | ⟨0, _⟩ => (Nat.zero_add _).symm | ⟨1, _⟩ => (Nat.zero_add _).symm | ⟨2, _⟩ => (Nat.zero_add _).symm)).trans ?_
  rw [storedY_apply, dxx_apply, whole0_apply, whole2_apply arg8, B.x, B.d, add_comm]
  unfold Args.y
  congr 1
  refine Finset.sum_congr rfl fun n _ => ?_
  rw [c_apply, whole4_apply arg7, B.c, loadedState_apply _ _ _ _ _ _ _ _ _ _ _ _ _ _ _ _ _ _ _ _ _ _ _ B]

include B in
/-- The block of the codes. -/
theorem out_codes_apply (h : Fin 128) (p : Fin 64) (n : Fin 256) :
    out0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 xt0 (ix4 0 h p n) = A.newCodes r h n p := by
  unfold out0_A_10
  rw [codes_pieces]
  refine (View.read_tilePieces (s := S1x128x64x256) VO0_10 _ S1x1x64x256.size (fun h : Fin 128 => ![0, h.val, 0, 0]) inb_codes _ 128 (Nat.le_refl 128) (ix4 0 h p n) h h.isLt (ix4 0 0 p n)
    (fun a => match a with
      | ⟨0, _⟩ => rfl | ⟨1, _⟩ => rfl | ⟨2, _⟩ => (Nat.zero_add _).symm | ⟨3, _⟩ => (Nat.zero_add _).symm)
    1 (fun i' hi => ?_)).trans ?_
  · have : i'.val ≠ h.val := fun e => hi (Fin.ext e)
    show h.val < i'.val ∨ i'.val + 1 ≤ h.val
    omega
  · rw [storedCodes_apply]
    simp only [loadedState_apply _ _ _ _ _ _ _ _ _ _ _ _ _ _ _ _ _ _ _ _ _ _ _ B]
    rfl

include B in
/-- The block of the scales. -/
theorem out_scale_apply (h : Fin 128) (n : Fin 256) :
    out0_A_11 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 xt0 (ix3 0 h n) = A.newScale r h n := by
  unfold out0_A_11
  rw [scale_pieces]
  refine (View.read_tilePieces (s := S1x128x256) VO0_11 _ S1x1x256.size (fun h : Fin 128 => ![0, h.val, 0]) inb_scale _ 128 (Nat.le_refl 128) (ix3 0 h n) h h.isLt (ix3 0 0 n)
    (fun a => match a with
      | ⟨0, _⟩ => rfl | ⟨1, _⟩ => rfl | ⟨2, _⟩ => (Nat.zero_add _).symm)
    1 (fun i' hi => ?_)).trans ?_
  · have : i'.val ≠ h.val := fun e => hi (Fin.ext e)
    show h.val < i'.val ∨ i'.val + 1 ≤ h.val
    omega
  · rw [storedScale_apply]
    simp only [loadedState_apply _ _ _ _ _ _ _ _ _ _ _ _ _ _ _ _ _ _ _ _ _ _ _ B]
    rfl

end run

end Cert.Decode

end
-- ==== Proof.HostArgs.lean ====
/- What the kernel's region finds in its arrays: the arguments, transposed or reshaped by the host lines before it. -/
module

public import proofs.«01_k».proof.Proof.Gen.KernelIdeal.Frame.Runs
public import Idealize.ShloMosaic.Lib.Pointwise

@[expose] public section

set_option maxRecDepth 16384

noncomputable section

namespace Cert.Decode

open Cert.KernelIdeal Cert.KernelIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The input, channels before heads. -/
theorem V_x (r : Fin 144) (p : Fin 64) (h : Fin 128) : V m c main_v0 (ix3 r p h) = m ((c : Thread nD τ).loc main_arg0) (ix3 r h p) := by
  have e : V m c main_v0 = transpose S144x64x128 [0,2,1] (m ((c : Thread nD τ).loc main_arg0)) transposes_S144x128x64_S144x64x128_0_2_1 := by
    show StableHlo.after (List.flatten [hostOps0]) (fun b => m (c, b)) (Proc.devRef .tc main_v0) = _
    simp only [List.flatten_cons, List.flatten_nil, List.append_nil]
    after_results
  rw [e]
  pointwise

/-- The step input, a unit axis added. -/
theorem V_dt (r : Fin 144) (h : Fin 128) : V m c main_v1 (ix3 r 0 h) = m ((c : Thread nD τ).loc main_arg1) (ix2 r h) := by
  have e : V m c main_v1 = shapeCast S144x1x128 (m ((c : Thread nD τ).loc main_arg1)) shapeCasts_S144x128_S144x1x128 := by
    show StableHlo.after (List.flatten [hostOps0]) (fun b => m (c, b)) (Proc.devRef .tc main_v1) = _
    simp only [List.flatten_cons, List.flatten_nil, List.append_nil]
    after_results
    rfl
  rw [e]
  pointwise

/-- The step's bias as a row. -/
theorem V_bias (h : Fin 128) : V m c main_v2 (ix2 0 h) = m ((c : Thread nD τ).loc main_arg2) (ix1 h) := by
  have e : V m c main_v2 = shapeCast S1x128 (m ((c : Thread nD τ).loc main_arg2)) shapeCasts_S128_S1x128 := by
    show StableHlo.after (List.flatten [hostOps0]) (fun b => m (c, b)) (Proc.devRef .tc main_v2) = _
    simp only [List.flatten_cons, List.flatten_nil, List.append_nil]
    after_results
    rfl
  rw [e]
  pointwise

/-- The decay's logarithm as a row. -/
theorem V_alog (h : Fin 128) : V m c main_v3 (ix2 0 h) = m ((c : Thread nD τ).loc main_arg3) (ix1 h) := by
  have e : V m c main_v3 = shapeCast S1x128 (m ((c : Thread nD τ).loc main_arg3)) shapeCasts_S128_S1x128 := by
    show StableHlo.after (List.flatten [hostOps0]) (fun b => m (c, b)) (Proc.devRef .tc main_v3) = _
    simp only [List.flatten_cons, List.flatten_nil, List.append_nil]
    after_results
    rfl
  rw [e]
  pointwise

/-- The skip weight as a row. -/
theorem V_d (h : Fin 128) : V m c main_v4 (ix2 0 h) = m ((c : Thread nD τ).loc main_arg6) (ix1 h) := by
  have e : V m c main_v4 = shapeCast S1x128 (m ((c : Thread nD τ).loc main_arg6)) shapeCasts_S128_S1x128 := by
    show StableHlo.after (List.flatten [hostOps0]) (fun b => m (c, b)) (Proc.devRef .tc main_v4) = _
    simp only [List.flatten_cons, List.flatten_nil, List.append_nil]
    after_results
    rfl
  rw [e]
  pointwise

/-- The pool's codes, channels before state elements. -/
theorem V_codes (s : Fin 183) (h : Fin 128) (p : Fin 64) (n : Fin 256) : V m c main_v5 (ix4 s h p n) = m ((c : Thread nD τ).loc main_arg7) (ix4 s h n p) := by
  have e : V m c main_v5 = transpose S183x128x64x256 [0,1,3,2] (m ((c : Thread nD τ).loc main_arg7)) transposes_S183x128x256x64_S183x128x64x256_0_1_3_2 := by
    show StableHlo.after (List.flatten [hostOps0]) (fun b => m (c, b)) (Proc.devRef .tc main_v5) = _
    simp only [List.flatten_cons, List.flatten_nil, List.append_nil]
    after_results
  rw [e]
  pointwise

end Cert.Decode

end
-- ==== Proof.ArgsOf.lean ====
/- The step's arguments, read off ten arrays. -/
module

public import proofs.«01_k».proof.Proof.Spec
public import Idealize.ShloMosaic.Lib.Pointwise

@[expose] public section

noncomputable section

namespace Cert.Decode

open Idealize.ShloMosaic

/-- The pool's slot of row `r`: the row's id, where it names one of the 183 slots. -/
def slotOf (ids : (⟨1, ![144]⟩ : Shape).Idx → BitVec 32) (r : Fin 144) : Fin 183 :=
  if h : (ids (ix1 r)).toNat < 183 then ⟨(ids (ix1 r)).toNat, h⟩ else 0

theorem slotOf_val (ids : (⟨1, ![144]⟩ : Shape).Idx → BitVec 32) (h : ∀ x, (ids x).toNat < 183) (r : Fin 144) :
    (slotOf ids r).val = (ids (ix1 r)).toNat := by
  unfold slotOf
  rw [dif_pos (h _)]

/-- The arguments as functions of their coordinates, the pool read at each row's slot. -/
def argsOf (x : (⟨3, ![144, 128, 64]⟩ : Shape).Idx → EReal) (dt : (⟨2, ![144, 128]⟩ : Shape).Idx → EReal)
    (bias alog : (⟨1, ![128]⟩ : Shape).Idx → EReal) (b c : (⟨3, ![144, 8, 256]⟩ : Shape).Idx → EReal)
    (d : (⟨1, ![128]⟩ : Shape).Idx → EReal) (codes : (⟨4, ![183, 128, 256, 64]⟩ : Shape).Idx → EReal)
    (scale : (⟨3, ![183, 128, 256]⟩ : Shape).Idx → EReal) (ids : (⟨1, ![144]⟩ : Shape).Idx → BitVec 32) : Args where
  x r h p := x (ix3 r h p)
  dt r h := dt (ix2 r h)
  bias h := bias (ix1 h)
  alog h := alog (ix1 h)
  b r g n := b (ix3 r g n)
  c r g n := c (ix3 r g n)
  d h := d (ix1 h)
  codes r h n p := codes (ix4 (slotOf ids r) h n p)
  scale r h n := scale (ix3 (slotOf ids r) h n)

/-- The output as an array. -/
def yArray (A : Args) : (⟨3, ![144, 128, 64]⟩ : Shape).Idx → EReal := fun i => A.y (i 0) (i 1) (i 2)

/-- The stored codes as an array. -/
def codesArray (A : Args) : (⟨4, ![144, 128, 256, 64]⟩ : Shape).Idx → EReal := fun i => A.newCodes (i 0) (i 1) (i 2) (i 3)

/-- The stored scales as an array. -/
def scaleArray (A : Args) : (⟨3, ![144, 128, 256]⟩ : Shape).Idx → EReal := fun i => A.newScale (i 0) (i 1) (i 2)

end Cert.Decode

end
-- ==== Proof.KernelBlocks.lean ====
/- The kernel's blocks at every grid point: point `t` reads row `t` of the arguments and the pool's slot that row names. -/
module

public import proofs.«01_k».proof.Proof.Block
public import proofs.«01_k».proof.Proof.HostArgs
public import proofs.«01_k».proof.Proof.ArgsOf

@[expose] public section

set_option maxRecDepth 16384

noncomputable section

namespace Cert.Decode

open Cert.KernelIdeal Cert.KernelIdeal.Gen
open Idealize.ShloMosaic Idealize.ShloMosaic.TcCoe Idealize.ShloMosaic.Tactic

variable (m : (ℓ : Loc nD τ sig) → Buf (Elt Ideal) ℓ) (hO : Ok m) (c : Dev nD)

/-- The kernel's arguments. -/
def kernelArgs : Args :=
  argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- The grid's only coordinate is the point. -/
theorem coord_val : ∀ t : Fin grid0.N, (BitVec.ofNat 32 (grid0.coords t 0).val).toNat = t.val := by decide +kernel

/-- The row of a grid point. -/
def rowOf (t : Fin grid0.N) : Fin 144 := ⟨t.val, t.isLt.trans_eq (by decide +kernel)⟩

theorem at_zero {a b : Nat} (h : a = b) : a * 1 + 1 * 0 = b := by omega

theorem at_rest (j s : Nat) : (0#32).toNat * s + 1 * j = j := by
  show 0 * s + 1 * j = j
  omega

theorem block_x (t : Fin (cfgM m hO).N) (p : Fin 64) (h : Fin 128) :
    iblk m hO c 0 t (ix3 0 p h) = m ((c : Thread nD τ).loc main_arg0) (ix3 (rowOf t) h p) := by
  refine Eq.trans ?_ (V_x m c (rowOf t) p h)
  show V m c main_v0 _ = _
  exact congrArg (V m c main_v0) (funext fun a => Fin.ext (match a with
    | ⟨0, _⟩ => at_zero (coord_val t) | ⟨1, _⟩ => at_rest p.val 64 | ⟨2, _⟩ => at_rest h.val 128))

theorem block_dt (t : Fin (cfgM m hO).N) (h : Fin 128) :
    iblk m hO c 1 t (ix3 0 0 h) = m ((c : Thread nD τ).loc main_arg1) (ix2 (rowOf t) h) := by
  refine Eq.trans ?_ (V_dt m c (rowOf t) h)
  show V m c main_v1 _ = _
  exact congrArg (V m c main_v1) (funext fun a => Fin.ext (match a with
    | ⟨0, _⟩ => at_zero (coord_val t) | ⟨1, _⟩ => rfl | ⟨2, _⟩ => at_rest h.val 128))

theorem block_bias (t : Fin (cfgM m hO).N) (h : Fin 128) :
    iblk m hO c 2 t (ix2 0 h) = m ((c : Thread nD τ).loc main_arg2) (ix1 h) := by
  refine Eq.trans ?_ (V_bias m c h)
  show V m c main_v2 _ = _
  exact congrArg (V m c main_v2) (funext fun a => Fin.ext (match a with
    | ⟨0, _⟩ => rfl | ⟨1, _⟩ => at_rest h.val 128))

theorem block_alog (t : Fin (cfgM m hO).N) (h : Fin 128) :
    iblk m hO c 3 t (ix2 0 h) = m ((c : Thread nD τ).loc main_arg3) (ix1 h) := by
  refine Eq.trans ?_ (V_alog m c h)
  show V m c main_v3 _ = _
  exact congrArg (V m c main_v3) (funext fun a => Fin.ext (match a with
    | ⟨0, _⟩ => rfl | ⟨1, _⟩ => at_rest h.val 128))

theorem block_b (t : Fin (cfgM m hO).N) (g : Fin 8) (n : Fin 256) :
    iblk m hO c 4 t (ix3 0 g n) = m ((c : Thread nD τ).loc main_arg4) (ix3 (rowOf t) g n) := by
  refine Eq.trans ?_ (congrFun (V_main_arg4 m c) (ix3 (rowOf t) g n))
  show V m c main_arg4 _ = _
  exact congrArg (V m c main_arg4) (funext fun a => Fin.ext (match a with
    | ⟨0, _⟩ => at_zero (coord_val t) | ⟨1, _⟩ => at_rest g.val 8 | ⟨2, _⟩ => at_rest n.val 256))

theorem block_c (t : Fin (cfgM m hO).N) (g : Fin 8) (n : Fin 256) :
    iblk m hO c 5 t (ix3 0 g n) = m ((c : Thread nD τ).loc main_arg5) (ix3 (rowOf t) g n) := by
  refine Eq.trans ?_ (congrFun (V_main_arg5 m c) (ix3 (rowOf t) g n))
  show V m c main_arg5 _ = _
  exact congrArg (V m c main_arg5) (funext fun a => Fin.ext (match a with
    | ⟨0, _⟩ => at_zero (coord_val t) | ⟨1, _⟩ => at_rest g.val 8 | ⟨2, _⟩ => at_rest n.val 256))

theorem block_d (t : Fin (cfgM m hO).N) (h : Fin 128) :
    iblk m hO c 6 t (ix2 0 h) = m ((c : Thread nD τ).loc main_arg6) (ix1 h) := by
  refine Eq.trans ?_ (V_d m c h)
  show V m c main_v4 _ = _
  exact congrArg (V m c main_v4) (funext fun a => Fin.ext (match a with
    | ⟨0, _⟩ => rfl | ⟨1, _⟩ => at_rest h.val 128))

/-- The table's element that point `t` reads is element `t`. -/
theorem table_off : ∀ t : Fin grid0.N, k0_off1 (grid0.coords t) 0 = t.val := by decide +kernel

/-- The slot that point `t` reads is the one its row names. -/
theorem table_slot (hs : ∀ x, (m ((c : Thread nD τ).loc main_arg9) x).toNat < 183) (t : Fin grid0.N) :
    ((tbl m).at 0 (Rect.unit (s := S144) (k0_off1 (grid0.coords t)) S1.size (k0_off1_inb (grid0.coords t))) numel1_S1 : BitVec 32).toNat
      = (slotOf (m ((c : Thread nD τ).loc main_arg9)) (rowOf t)).val := by
  rw [slotOf_val _ hs]
  have e : tbl m 0 = m ((c : Thread nD τ).loc main_arg9) := (V_pre m c 0).symm.trans (V_main_arg9 m c)
  show (tbl m 0 _ : BitVec 32).toNat = _
  rw [e]
  refine congrArg (fun j : S144.Idx => (m ((c : Thread nD τ).loc main_arg9) j).toNat) (funext fun a => Fin.ext ?_)
  match a with
  | ⟨0, _⟩ => exact congrArg (· + 1 * 0) (table_off t)

theorem block_codes (hs : ∀ x, (m ((c : Thread nD τ).loc main_arg9) x).toNat < 183) (t : Fin (cfgM m hO).N) (h : Fin 128) (p : Fin 64) (n : Fin 256) :
    iblk m hO c 7 t (ix4 0 h p n) = m ((c : Thread nD τ).loc main_arg7) (ix4 (slotOf (m ((c : Thread nD τ).loc main_arg9)) (rowOf t)) h n p) := by
  refine Eq.trans ?_ (V_codes m c (slotOf (m ((c : Thread nD τ).loc main_arg9)) (rowOf t)) h p n)
  show V m c main_v5 _ = _
  exact congrArg (V m c main_v5) (funext fun a => Fin.ext (match a with
    | ⟨0, _⟩ => at_zero (table_slot m c hs t) | ⟨1, _⟩ => at_rest h.val 128 | ⟨2, _⟩ => at_rest p.val 64 | ⟨3, _⟩ => at_rest n.val 256))

theorem block_scale (hs : ∀ x, (m ((c : Thread nD τ).loc main_arg9) x).toNat < 183) (t : Fin (cfgM m hO).N) (h : Fin 128) (n : Fin 256) :
    iblk m hO c 8 t (ix3 0 h n) = m ((c : Thread nD τ).loc main_arg8) (ix3 (slotOf (m ((c : Thread nD τ).loc main_arg9)) (rowOf t)) h n) := by
  refine Eq.trans ?_ (congrFun (V_main_arg8 m c) (ix3 (slotOf (m ((c : Thread nD τ).loc main_arg9)) (rowOf t)) h n))
  show V m c main_arg8 _ = _
  exact congrArg (V m c main_arg8) (funext fun a => Fin.ext (match a with
    | ⟨0, _⟩ => at_zero (table_slot m c hs t) | ⟨1, _⟩ => at_rest h.val 128 | ⟨2, _⟩ => at_rest n.val 256))

/-- Point `t` reads row `t`. -/
theorem blocks (hs : ∀ x, (m ((c : Thread nD τ).loc main_arg9) x).toNat < 183) (t : Fin (cfgM m hO).N) :
    Blocks (kernelArgs m c) (rowOf t) (iblk m hO c 0 t) (iblk m hO c 1 t) (iblk m hO c 2 t) (iblk m hO c 3 t) (iblk m hO c 4 t)
      (iblk m hO c 5 t) (iblk m hO c 6 t) (iblk m hO c 7 t) (iblk m hO c 8 t) where
  x := block_x m hO c t
  dt := block_dt m hO c t
  bias := block_bias m hO c t
  alog := block_alog m hO c t
  b := block_b m hO c t
  c := block_c m hO c t
  d := block_d m hO c t
  codes := block_codes m hO c hs t
  scale := block_scale m hO c hs t

end Cert.Decode

end
-- ==== Proof.KernelArrays.lean ====
/- The kernel's three output arrays after its last grid point: row `r` of each is what point `r` wrote. -/
module

public import proofs.«01_k».proof.Proof.KernelBlocks

@[expose] public section

set_option maxRecDepth 16384

noncomputable section

namespace Cert.Decode

open Cert.KernelIdeal Cert.KernelIdeal.Gen
open Idealize.ShloMosaic Idealize.ShloMosaic.TcCoe Idealize.ShloMosaic.Tactic

variable (m : (ℓ : Loc nD τ sig) → Buf (Elt Ideal) ℓ) (hO : Ok m) (c : Dev nD)
  (hs : ∀ x, (m ((c : Thread nD τ).loc main_arg9) x).toNat < 183)

/-- The output, channels before heads. -/
def yWide (A : Args) : S144x64x128.Idx → EReal := fun i => A.y (i 0) (i 2) (i 1)

/-- The codes, channels before state elements. -/
def codesWide (A : Args) : S144x128x64x256.Idx → EReal := fun i => A.newCodes (i 0) (i 1) (i 3) (i 2)

theorem unit_axis (x : Fin 1) : x = 0 := Subsingleton.elim _ _

/-- A block's index of a whole array: the row's, then the block's own. -/
theorem read_y (t : Fin (cfgM m hO).N) (G : S144x64x128.Idx → EReal) (p : Fin 64) (h : Fin 128) :
    (((cfgM m hO).win 9).blk t).view.read (Elt Ideal) G (ix3 (0 : Fin 1) p h) = G (ix3 (rowOf t) p h) := by
  show G _ = G _
  exact congrArg G (funext fun a => Fin.ext (match a with
    | ⟨0, _⟩ => at_zero (coord_val t) | ⟨1, _⟩ => at_rest p.val 64 | ⟨2, _⟩ => at_rest h.val 128))

theorem read_codes (t : Fin (cfgM m hO).N) (G : S144x128x64x256.Idx → EReal) (h : Fin 128) (p : Fin 64) (n : Fin 256) :
    (((cfgM m hO).win 10).blk t).view.read (Elt Ideal) G (ix4 (0 : Fin 1) h p n) = G (ix4 (rowOf t) h p n) := by
  show G _ = G _
  exact congrArg G (funext fun a => Fin.ext (match a with
    | ⟨0, _⟩ => at_zero (coord_val t) | ⟨1, _⟩ => at_rest h.val 128 | ⟨2, _⟩ => at_rest p.val 64 | ⟨3, _⟩ => at_rest n.val 256))

theorem read_scale (t : Fin (cfgM m hO).N) (G : S144x128x256.Idx → EReal) (h : Fin 128) (n : Fin 256) :
    (((cfgM m hO).win 11).blk t).view.read (Elt Ideal) G (ix3 (0 : Fin 1) h n) = G (ix3 (rowOf t) h n) := by
  show G _ = G _
  exact congrArg G (funext fun a => Fin.ext (match a with
    | ⟨0, _⟩ => at_zero (coord_val t) | ⟨1, _⟩ => at_rest h.val 128 | ⟨2, _⟩ => at_rest n.val 256))

theorem outs_y_eq (t : Fin (cfgM m hO).N) : (outsAt0 m hO c t).1 = out0_A_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) := by
  unfold outsAt0
  with_reducible rfl

include hs in
theorem outs_y (t : Fin (cfgM m hO).N) (p : Fin 64) (h : Fin 128) :
    (outsAt0 m hO c t).1 (ix3 0 p h) = (kernelArgs m c).y (rowOf t) h p := by
  rw [outs_y_eq]
  exact out_y_apply c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (blocks m hO c hs t) p h

theorem outs_codes_eq (t : Fin (cfgM m hO).N) : (outsAt0 m hO c t).2.1 = out0_A_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) := by
  unfold outsAt0
  with_reducible rfl

include hs in
theorem outs_codes (t : Fin (cfgM m hO).N) (h : Fin 128) (p : Fin 64) (n : Fin 256) :
    (outsAt0 m hO c t).2.1 (ix4 0 h p n) = (kernelArgs m c).newCodes (rowOf t) h n p := by
  rw [outs_codes_eq]
  exact out_codes_apply c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (blocks m hO c hs t) h p n

theorem outs_scale_eq (t : Fin (cfgM m hO).N) : (outsAt0 m hO c t).2.2 = out0_A_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) := by
  unfold outsAt0
  with_reducible rfl

include hs in
theorem outs_scale (t : Fin (cfgM m hO).N) (h : Fin 128) (n : Fin 256) :
    (outsAt0 m hO c t).2.2 (ix3 0 h n) = (kernelArgs m c).newScale (rowOf t) h n := by
  rw [outs_scale_eq]
  exact out_scale_apply c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (blocks m hO c hs t) h n

include hs in
theorem flushed_y (t : Fin (cfgM m hO).N) :
    (dats m hO 0 c).flushed 9 t = (((cfgM m hO).win 9).blk t).view.read (Elt Ideal) (yWide (kernelArgs m c)) := by
  show ((cfgM m hO).win 9).cut (grid0.coords t) ((dats m hO 0 c).after 9 t) = _
  rw [after0_9]
  refine funext fun (j : S1x64x128.Idx) => ?_
  obtain ⟨p, h, rfl⟩ : ∃ (p : Fin 64) (h : Fin 128), j = ix3 (0 : Fin 1) p h :=
    ⟨j 1, j 2, funext fun a => match a with | ⟨0, _⟩ => unit_axis (j 0) | ⟨1, _⟩ => rfl | ⟨2, _⟩ => rfl⟩
  exact (outs_y m hO c hs t p h).trans (read_y m hO t (yWide (kernelArgs m c)) p h).symm

include hs in
theorem flushed_codes (t : Fin (cfgM m hO).N) :
    (dats m hO 0 c).flushed 10 t = (((cfgM m hO).win 10).blk t).view.read (Elt Ideal) (codesWide (kernelArgs m c)) := by
  show ((cfgM m hO).win 10).cut (grid0.coords t) ((dats m hO 0 c).after 10 t) = _
  rw [after0_10]
  refine funext fun (j : S1x128x64x256.Idx) => ?_
  obtain ⟨h, p, n, rfl⟩ : ∃ (h : Fin 128) (p : Fin 64) (n : Fin 256), j = ix4 (0 : Fin 1) h p n :=
    ⟨j 1, j 2, j 3, funext fun a => match a with | ⟨0, _⟩ => unit_axis (j 0) | ⟨1, _⟩ => rfl | ⟨2, _⟩ => rfl | ⟨3, _⟩ => rfl⟩
  exact (outs_codes m hO c hs t h p n).trans (read_codes m hO t (codesWide (kernelArgs m c)) h p n).symm

include hs in
theorem flushed_scale (t : Fin (cfgM m hO).N) :
    (dats m hO 0 c).flushed 11 t = (((cfgM m hO).win 11).blk t).view.read (Elt Ideal) (scaleArray (kernelArgs m c)) := by
  show ((cfgM m hO).win 11).cut (grid0.coords t) ((dats m hO 0 c).after 11 t) = _
  rw [after0_11]
  refine funext fun (j : S1x128x256.Idx) => ?_
  obtain ⟨h, n, rfl⟩ : ∃ (h : Fin 128) (n : Fin 256), j = ix3 (0 : Fin 1) h n :=
    ⟨j 1, j 2, funext fun a => match a with | ⟨0, _⟩ => unit_axis (j 0) | ⟨1, _⟩ => rfl | ⟨2, _⟩ => rfl⟩
  exact (outs_scale m hO c hs t h n).trans (read_scale m hO t (scaleArray (kernelArgs m c)) h n).symm

/-- A coordinate of a row's block, along the rows and along a whole axis. -/
theorem in_row {x : Nat} (t : Fin grid0.N) (h : x = t.val) :
    (BitVec.ofNat 32 (grid0.coords t 0).val).toNat * 1 ≤ x ∧ x < (BitVec.ofNat 32 (grid0.coords t 0).val).toNat * 1 + 1 := by
  have := coord_val t
  omega

theorem in_axis {s x : Nat} (h : x < s) : (0#32).toNat * s ≤ x ∧ x < (0#32).toNat * s + s := by
  show 0 * s ≤ x ∧ x < 0 * s + s
  omega

/-- The grid point of a row. -/
def pointOf (r : Fin 144) : Fin grid0.N := ⟨r.val, r.isLt.trans_eq (by decide +kernel)⟩

theorem cover_y (i : S144x64x128.Idx) :
    ∃ t : Fin (cfgM m hO).N, ((cfgM m hO).win 9).flush t = true ∧ i ∈ (((cfgM m hO).win 9).blk t).view.set := by
  obtain ⟨t, ht⟩ : ∃ t : Fin grid0.N, (i 0).val = t.val := ⟨pointOf (i 0), rfl⟩
  refine ⟨t, flush0_9 _ _, ?_⟩
  refine (congrArg (fun S => i ∈ S) (View.set_slice_whole main_v6_0 (((cfgM m hO).win 9).rect t))).mpr ?_
  exact (Rect.mem_set_unit).mpr fun a => match a with
    | ⟨0, _⟩ => in_row t ht | ⟨1, _⟩ => in_axis (i 1).isLt | ⟨2, _⟩ => in_axis (i 2).isLt

theorem cover_codes (i : S144x128x64x256.Idx) :
    ∃ t : Fin (cfgM m hO).N, ((cfgM m hO).win 10).flush t = true ∧ i ∈ (((cfgM m hO).win 10).blk t).view.set := by
  obtain ⟨t, ht⟩ : ∃ t : Fin grid0.N, (i 0).val = t.val := ⟨pointOf (i 0), rfl⟩
  refine ⟨t, flush0_10 _ _, ?_⟩
  refine (congrArg (fun S => i ∈ S) (View.set_slice_whole main_v6_1 (((cfgM m hO).win 10).rect t))).mpr ?_
  exact (Rect.mem_set_unit).mpr fun a => match a with
    | ⟨0, _⟩ => in_row t ht | ⟨1, _⟩ => in_axis (i 1).isLt | ⟨2, _⟩ => in_axis (i 2).isLt | ⟨3, _⟩ => in_axis (i 3).isLt

theorem cover_scale (i : S144x128x256.Idx) :
    ∃ t : Fin (cfgM m hO).N, ((cfgM m hO).win 11).flush t = true ∧ i ∈ (((cfgM m hO).win 11).blk t).view.set := by
  obtain ⟨t, ht⟩ : ∃ t : Fin grid0.N, (i 0).val = t.val := ⟨pointOf (i 0), rfl⟩
  refine ⟨t, flush0_11 _ _, ?_⟩
  refine (congrArg (fun S => i ∈ S) (View.set_slice_whole main_v6_2 (((cfgM m hO).win 11).rect t))).mpr ?_
  exact (Rect.mem_set_unit).mpr fun a => match a with
    | ⟨0, _⟩ => in_row t ht | ⟨1, _⟩ => in_axis (i 1).isLt | ⟨2, _⟩ => in_axis (i 2).isLt

include hs in
theorem final_y : (dats m hO 0 c).arrAt 9 (cfgM m hO).N = yWide (kernelArgs m c) :=
  (dats m hO 0 c).arrAt_eq_of_cover 9 (yWide (kernelArgs m c)) (fun t _ => flushed_y m hO c hs t) (cover_y m hO)

include hs in
theorem final_codes : (dats m hO 0 c).arrAt 10 (cfgM m hO).N = codesWide (kernelArgs m c) :=
  (dats m hO 0 c).arrAt_eq_of_cover 10 (codesWide (kernelArgs m c)) (fun t _ => flushed_codes m hO c hs t) (cover_codes m hO)

include hs in
theorem final_scale : (dats m hO 0 c).arrAt 11 (cfgM m hO).N = scaleArray (kernelArgs m c) :=
  (dats m hO 0 c).arrAt_eq_of_cover 11 (scaleArray (kernelArgs m c)) (fun t _ => flushed_scale m hO c hs t) (cover_scale m hO)

end Cert.Decode

end
-- ==== Proof.KernelRun.lean ====
/- The kernel's run over the extended reals: what its three results hold. -/
module

public import proofs.«01_k».proof.Proof.KernelArrays

@[expose] public section

set_option maxRecDepth 16384

noncomputable section

namespace Cert.Decode

open Cert.KernelIdeal Cert.KernelIdeal.Gen
open Idealize.ShloMosaic Idealize.ShloMosaic.TcCoe Idealize.ShloMosaic.Tactic Idealize.ShloMosaic.StableHlo
open Idealize.SL.Sem

variable (m : (ℓ : Loc nD τ sig) → Buf (Elt Ideal) ℓ) (ρ : Dev nD → PrngReg) (hO : Ok m) (c : Dev nD)
  (hs : ∀ x, (m ((c : Thread nD τ).loc main_arg9) x).toNat < 183)

theorem arrays_distinct : Function.Injective (Pipeline.arrRef spec0) := by decide

/-- The windows' arrays as the region leaves them. -/
def leftBy : Valuation τ sig (Elt Ideal) :=
  Pipeline.withArrays spec0 c (V0 m c) fun w => (dats m hO 0 c).arrAt w (cfgM m hO).N

include hs in
theorem left_y : leftBy m hO c (Proc.devRef .tc main_v6_0) = yWide (kernelArgs m c) :=
  (Pipeline.withArrays_arr spec0 arrays_distinct c (V0 m c) _ 9).trans (final_y m hO c hs)

include hs in
theorem left_codes : leftBy m hO c (Proc.devRef .tc main_v6_1) = codesWide (kernelArgs m c) :=
  (Pipeline.withArrays_arr spec0 arrays_distinct c (V0 m c) _ 10).trans (final_codes m hO c hs)

include hs in
theorem tail_y : Pipeline.afterTail pcfgs (fun _ => adm m hO) (dats m hO) 0 (V0 m) [hostOps1] c main_v7 = yArray (kernelArgs m c) := by
  have e : StableHlo.after hostOps1 (leftBy m hO c) (Proc.devRef .tc main_v7)
      = transpose S144x128x64 [0,2,1] (leftBy m hO c (Proc.devRef .tc main_v6_0)) transposes_S144x64x128_S144x128x64_0_2_1 := by
    after_results
  refine Eq.trans (b := StableHlo.after hostOps1 (leftBy m hO c) (Proc.devRef .tc main_v7)) ?_ ?_
  · unfold Pipeline.afterTail leftBy
    simp only [List.flatten_cons, List.flatten_nil, List.append_nil]
  · rw [e, left_y m hO c hs]
    funext i
    obtain ⟨r, h, p, rfl⟩ : ∃ (r : Fin 144) (h : Fin 128) (p : Fin 64), i = ix3 r h p :=
      ⟨i 0, i 1, i 2, funext fun a => match a with | ⟨0, _⟩ => rfl | ⟨1, _⟩ => rfl | ⟨2, _⟩ => rfl⟩
    pointwise [yWide, yArray]

include hs in
theorem tail_codes : Pipeline.afterTail pcfgs (fun _ => adm m hO) (dats m hO) 0 (V0 m) [hostOps1] c main_v8 = codesArray (kernelArgs m c) := by
  have e : StableHlo.after hostOps1 (leftBy m hO c) (Proc.devRef .tc main_v8)
      = transpose S144x128x256x64 [0,1,3,2] (leftBy m hO c (Proc.devRef .tc main_v6_1)) transposes_S144x128x64x256_S144x128x256x64_0_1_3_2 := by
    after_results
  refine Eq.trans (b := StableHlo.after hostOps1 (leftBy m hO c) (Proc.devRef .tc main_v8)) ?_ ?_
  · unfold Pipeline.afterTail leftBy
    simp only [List.flatten_cons, List.flatten_nil, List.append_nil]
  · rw [e, left_codes m hO c hs]
    funext i
    obtain ⟨r, h, n, p, rfl⟩ : ∃ (r : Fin 144) (h : Fin 128) (n : Fin 256) (p : Fin 64), i = ix4 r h n p :=
      ⟨i 0, i 1, i 2, i 3, funext fun a => match a with | ⟨0, _⟩ => rfl | ⟨1, _⟩ => rfl | ⟨2, _⟩ => rfl | ⟨3, _⟩ => rfl⟩
    pointwise [codesWide, codesArray]

include hO in
/-- The run, its results read. -/
theorem kernel_run (hs : ∀ c : Dev nD, ∀ x, (m ((c : Thread nD τ).loc main_arg9) x).toNat < 183) :
    θ_run defs (onTc (τ := τ) (main (F := Ideal))) ⟨m, fun _ => 0, ρ⟩ (fun r => ∀ c : Dev nD,
      r.2.mem ((c.tc : Thread nD τ).loc main_v7) = yArray (kernelArgs m c)
      ∧ r.2.mem ((c.tc : Thread nD τ).loc main_v8) = codesArray (kernelArgs m c)
      ∧ r.2.mem ((c.tc : Thread nD τ).loc main_v6_2) = scaleArray (kernelArgs m c)) :=
  (θ_run defs _ _).mono (fun _ h c =>
      ⟨((h c).2 main_v7 (by decide : main_v7 ∈ Pipeline.restRefs sig spec0)).trans (tail_y m hO c (hs c)),
        ((h c).2 main_v8 (by decide : main_v8 ∈ Pipeline.restRefs sig spec0)).trans (tail_codes m hO c (hs c)),
        ((h c).1 11).trans (final_scale m hO c (hs c))⟩)
    (run_main m ρ hO)

end Cert.Decode

end
-- ==== Proof.RefGather.lean ====
/- The reference's two host gathers: row `r` of each is the pool's slot that the row's id names. -/
module

public import proofs.«01_k».proof.Proof.ArgsOf
public import proofs.«01_k».proof.Proof.Gen.ReferenceIdeal.Frame
public import Idealize.ShloMosaic.Lib.Pointwise

@[expose] public section

set_option maxRecDepth 16384

noncomputable section

namespace Cert.Decode

open Cert.ReferenceIdeal Cert.ReferenceIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The ids as the gathers take them: a negative one counted from the pool's end. -/
def startIds (ids : S144.Idx → BitVec 32) : S144x1.Idx → BitVec 32 :=
  broadcastInDim S144x1 ![0] bcast_S144_S144x1_0
    (select (cmpi .slt ids (broadcastInDim S144 ![] bcast_S_S144 (constantI S_ 32 0#32)))
      (addi ids (broadcastInDim S144 ![] bcast_S_S144 (constantI S_ 32 183#32))) ids)

/-- An id of the pool is taken as it is. -/
theorem select_id (x : BitVec 32) (h : x.toNat < 183) :
    Scalar.select (IntOp.cmpi .slt x 0#32) (IntOp.addi x 183#32) x = x := by
  have e : IntOp.cmpi .slt x 0#32 = 0#1 := by
    show BitVec.ofBool (x.slt 0#32) = 0#1
    have : x.slt 0#32 = false := by
      rw [BitVec.slt_eq_decide, decide_eq_false_iff_not, BitVec.toInt_eq_toNat_cond]
      rw [if_pos (by omega)]
      show ¬ ((x.toNat : Int) < 0)
      omega
    rw [this]
    rfl
  rw [e]
  rfl

theorem startIds_apply (ids : S144.Idx → BitVec 32) (h : ∀ x, (ids x).toNat < 183) (r : Fin 144) :
    startIds ids (ix2 r 0) = ids (ix1 r) := by
  refine Eq.trans ?_ (select_id (ids (ix1 r)) (h _))
  unfold startIds
  pointwise

theorem start_val (x : BitVec 32) (h : x.toNat < 183) : min x.toInt.toNat (183 - 1) = x.toNat := by
  rw [BitVec.toInt_eq_toNat_cond, if_pos (by omega)]
  omega

theorem gather_codes (x : S183x128x256x64.Idx → EReal) (idx : S144x1.Idx → BitVec 32) (r : Fin 144) (h : Fin 128) (n : Fin 256) (p : Fin 64)
    (s : Fin 183) (hs : min (idx (ix2 r 0)).toInt.toNat (183 - 1) = s.val) :
    Host.gather gather_S183x128x256x64_S144x1_S144x128x256x64_123_0_n_n_0_1_112825664 x idx (ix4 r h n p) = x (ix4 s h n p) := by
  have e0 : (gather_S183x128x256x64_S144x1_S144x128x256x64_123_0_n_n_0_1_112825664).siIdx (ix4 r h n p) ⟨0, Nat.one_pos⟩ = ix2 r 0 :=
    funext fun b => match b with | ⟨0, _⟩ => rfl | ⟨1, _⟩ => rfl
  unfold Host.gather
  refine congrArg x (funext fun a => Fin.ext ?_)
  match a with
  | ⟨0, _⟩ =>
    show min (idx ((gather_S183x128x256x64_S144x1_S144x128x256x64_123_0_n_n_0_1_112825664).siIdx (ix4 r h n p) ⟨0, Nat.one_pos⟩)).toInt.toNat (183 - 1) + 0 + 0 = s.val
    rw [e0, hs]
    rfl
  | ⟨1, _⟩ => show 0 + 0 + h.val = h.val; omega
  | ⟨2, _⟩ => show 0 + 0 + n.val = n.val; omega
  | ⟨3, _⟩ => show 0 + 0 + p.val = p.val; omega

theorem gather_scale (x : S183x128x256.Idx → EReal) (idx : S144x1.Idx → BitVec 32) (r : Fin 144) (h : Fin 128) (n : Fin 256)
    (s : Fin 183) (hs : min (idx (ix2 r 0)).toInt.toNat (183 - 1) = s.val) :
    Host.gather gather_S183x128x256_S144x1_S144x128x256_12_0_n_n_0_1_1128256 x idx (ix3 r h n) = x (ix3 s h n) := by
  have e0 : (gather_S183x128x256_S144x1_S144x128x256_12_0_n_n_0_1_1128256).siIdx (ix3 r h n) ⟨0, Nat.one_pos⟩ = ix2 r 0 :=
    funext fun b => match b with | ⟨0, _⟩ => rfl | ⟨1, _⟩ => rfl
  unfold Host.gather
  refine congrArg x (funext fun a => Fin.ext ?_)
  match a with
  | ⟨0, _⟩ =>
    show min (idx ((gather_S183x128x256_S144x1_S144x128x256_12_0_n_n_0_1_1128256).siIdx (ix3 r h n) ⟨0, Nat.one_pos⟩)).toInt.toNat (183 - 1) + 0 + 0 = s.val
    rw [e0, hs]
    rfl
  | ⟨1, _⟩ => show 0 + 0 + h.val = h.val; omega
  | ⟨2, _⟩ => show 0 + 0 + n.val = n.val; omega

/-- The codes that the region finds. -/
theorem ref_V_codes (hs : ∀ x, (m ((c : Thread nD τ).loc main_arg9) x).toNat < 183) (r : Fin 144) (h : Fin 128) (n : Fin 256) (p : Fin 64) :
    Gen.V m c main_v6 (ix4 r h n p) = m ((c : Thread nD τ).loc main_arg7) (ix4 (slotOf (m ((c : Thread nD τ).loc main_arg9)) r) h n p) := by
  have e : Gen.V m c main_v6 = Host.gather gather_S183x128x256x64_S144x1_S144x128x256x64_123_0_n_n_0_1_112825664
      (m ((c : Thread nD τ).loc main_arg7)) (startIds (m ((c : Thread nD τ).loc main_arg9))) := by
    show StableHlo.after hostOps0 (fun b => m (c, b)) (Proc.devRef .tc main_v6) = _
    unfold startIds
    after_results
  rw [e]
  refine gather_codes _ _ r h n p _ ?_
  rw [startIds_apply _ hs, slotOf_val _ hs]
  exact start_val _ (hs _)

/-- The scales that the region finds. -/
theorem ref_V_scale (hs : ∀ x, (m ((c : Thread nD τ).loc main_arg9) x).toNat < 183) (r : Fin 144) (h : Fin 128) (n : Fin 256) :
    Gen.V m c main_v13 (ix3 r h n) = m ((c : Thread nD τ).loc main_arg8) (ix3 (slotOf (m ((c : Thread nD τ).loc main_arg9)) r) h n) := by
  have e : Gen.V m c main_v13 = Host.gather gather_S183x128x256_S144x1_S144x128x256_12_0_n_n_0_1_1128256
      (m ((c : Thread nD τ).loc main_arg8)) (startIds (m ((c : Thread nD τ).loc main_arg9))) := by
    show StableHlo.after hostOps0 (fun b => m (c, b)) (Proc.devRef .tc main_v13) = _
    unfold startIds
    after_results
  rw [e]
  refine gather_scale _ _ r h n _ ?_
  rw [startIds_apply _ hs, slotOf_val _ hs]
  exact start_val _ (hs _)

end Cert.Decode

end
-- ==== Proof.RefValue.lean ====
/- What the reference's one body computes over the extended reals, entry by entry. -/
module

public import proofs.«01_k».proof.Proof.Spec
public import proofs.«01_k».proof.Proof.Gen.ReferenceIdeal.Frame
public import Idealize.ShloMosaic.Lib.Pointwise

@[expose] public section

set_option maxRecDepth 16384

noncomputable section

namespace Cert.Decode

open Cert.ReferenceIdeal Cert.ReferenceIdeal.Gen
open Idealize.ShloMosaic Idealize.ShloMosaic.TcCoe Idealize.ShloMosaic.Tactic

section words

variable {F : FTy → Type} [FloatOps F]
variable (v7 : FVec F S144x128x256x64 .f32) (v9 : FVec F S144x128x64 .f32) (v29 v37 : FVec F S144x128 .f32) (v39 : FVec F S144x8x256 .f32)

/-- The least scale of a row, as its operations. -/
theorem ref_least (j : S144x128x256.Idx) :
    k0_pay11 v7 v9 v29 v37 v39 j
      = FloatOps.mulf (multiReduction .maximumf [3] S144x128x256 (fun i => FloatOps.absf (k0_pay9 v7 v9 v29 v37 v39 i)) 0xFF800000#32 reduces_S144x128x256x64_S144x128x256 (.inl rfl) rfl j)
          (Scalar.ofBits .f32 0x3B124925#32) := rfl

/-- The exponent of a row's scale, as its operations. -/
theorem ref_expo (j : S144x128x256.Idx) :
    k0_pay12 v7 v9 v29 v37 v39 j
      = FloatOps.addf (FloatOps.floor (FloatOps.divf (FloatOps.log (k0_pay11 v7 v9 v29 v37 v39 j)) (FloatOps.log (Scalar.ofBits .f32 0x40000000#32))))
          (Scalar.ofBits .f32 0x3F800000#32) := rfl

/-- Whether a row's least scale is below the normal range. -/
theorem ref_tiny (j : S144x128x256.Idx) :
    k0_pay13 v7 v9 v29 v37 v39 j = FloatOps.cmpf .olt (k0_pay11 v7 v9 v29 v37 v39 j) (Scalar.ofBits .f32 0x00800000#32) := rfl

/-- A row's scale from its exponent. -/
theorem ref_pow (a12 : FVec F S144x128x256 .f32) (a13 : IVec S144x128x256 1) (k : F .f32) (j : S144x128x256.Idx) :
    k0_pay2 a12 a13 k j = FloatOps.exp2 (k0_pay1 a12 a13 k j) := rfl

/-- A code from its number and its row's exponent. -/
theorem ref_quantise (a9 : FVec F S144x128x256x64 .f32) (a12 : FVec F S144x128x256 .f32) (a13 : IVec S144x128x256 1) (k : F .f32)
    (r : Fin 144) (h : Fin 128) (n : Fin 256) (p : Fin 64) :
    k0_pay3 a9 a12 a13 k (ix4 r h n p)
      = FloatOps.truncf .fp8e4m3 bitsLt_fp8e4m3_f32 (FloatOps.minimumf (Scalar.ofBits .f32 0x43E00000#32) (FloatOps.maximumf (Scalar.ofBits .f32 0xC3E00000#32)
          (FloatOps.mulf (a9 (ix4 r h n p)) (FloatOps.exp2 (FloatOps.subf (Scalar.ofBits .f32 0x00000000#32) (k0_pay1 a12 a13 k (ix3 r h n))))))) := by
  generalize hk : k0_pay1 a12 a13 k = e
  unfold k0_pay3
  rw [hk]
  pointwise []

end words

/-- The same over the extended reals. -/
theorem ideal_code (v e : EReal) :
    FloatOps.truncf (F := Ideal) .fp8e4m3 bitsLt_fp8e4m3_f32 (FloatOps.minimumf (Scalar.ofBits .f32 0x43E00000#32) (FloatOps.maximumf (Scalar.ofBits .f32 0xC3E00000#32)
          (FloatOps.mulf (φ := .f32) v (FloatOps.exp2 (FloatOps.subf (Scalar.ofBits .f32 0x00000000#32) e)))))
      = min (Ideal.ofBits .f32 0x43E00000#32) (max (Ideal.ofBits .f32 0xC3E00000#32) (v * Ideal.exp2 (Ideal.ofBits .f32 0x00000000#32 - e))) := rfl

/-- The largest magnitude of a row. -/
theorem row_max (v : FVec Ideal S144x128x256x64 .f32) (r : Fin 144) (h : Fin 128) (n : Fin 256) :
    multiReduction .maximumf [3] S144x128x256 (fun i => FloatOps.absf (v i)) 0xFF800000#32 reduces_S144x128x256x64_S144x128x256 (.inl rfl) rfl (ix3 r h n)
      = Finset.univ.fold max (Ideal.ofBits .f32 0xFF800000#32) (fun p : Fin 64 => FloatOps.absf (F := Ideal) (φ := .f32) (v (ix4 r h n p))) := by
  refine (Ideal.multiReduction_maximumf_single _ _ _ _ _ (ix3 r h n)).trans ?_
  refine Finset.fold_congr fun p _ => ?_
  show FloatOps.absf (F := Ideal) (φ := .f32) (v _) = _
  exact congrArg (fun i => FloatOps.absf (F := Ideal) (φ := .f32) (v i))
    (funext fun a => match a with | ⟨0, _⟩ => rfl | ⟨1, _⟩ => rfl | ⟨2, _⟩ => rfl | ⟨3, _⟩ => rfl)

/-- The body's nine inputs, the whole arrays of the arguments. -/
structure Arrays (A : Args) (x0 : Vec Ideal S144x128x64 .bf16) (x1 : Vec Ideal S144x128 .bf16)
    (x2 x3 : Vec Ideal S128 .f32) (x4 x5 : Vec Ideal S144x8x256 .bf16) (x6 : Vec Ideal S128 .f32)
    (x7 : Vec Ideal S144x128x256x64 .fp8e4m3) (x8 : Vec Ideal S144x128x256 .f32) : Prop where
  x : ∀ r h p, x0 (ix3 r h p) = A.x r h p
  dt : ∀ r h, x1 (ix2 r h) = A.dt r h
  bias : ∀ h, x2 (ix1 h) = A.bias h
  alog : ∀ h, x3 (ix1 h) = A.alog h
  b : ∀ r g n, x4 (ix3 r g n) = A.b r g n
  c : ∀ r g n, x5 (ix3 r g n) = A.c r g n
  d : ∀ h, x6 (ix1 h) = A.d h
  codes : ∀ r h n p, x7 (ix4 r h n p) = A.codes r h n p
  scale : ∀ r h n, x8 (ix3 r h n) = A.scale r h n

section body

variable {A : Args} {x0 : Vec Ideal S144x128x64 .bf16} {x1 : Vec Ideal S144x128 .bf16}
    {x2 x3 : Vec Ideal S128 .f32} {x4 x5 : Vec Ideal S144x8x256 .bf16} {x6 : Vec Ideal S128 .f32}
    {x7 : Vec Ideal S144x128x256x64 .fp8e4m3} {x8 : Vec Ideal S144x128x256 .f32} (W : Arrays A x0 x1 x2 x3 x4 x5 x6 x7 x8)

include W

theorem ref_step (r : Fin 144) (h : Fin 128) : k0_pay6 x1 x2 (ix2 r h) = stepOf (A.dt r h) (A.bias h) := by
  rw [← W.dt, ← W.bias]
  unfold stepOf
  pointwise [k0_pay6]
  exact if_neg fun hne => hne rfl

theorem ref_decay (r : Fin 144) (h : Fin 128) :
    k0_pay7 x1 x2 x3 (ix2 r h) = decayOf (A.alog h) (stepOf (A.dt r h) (A.bias h)) := by
  rw [← ref_step W, ← W.alog]
  unfold decayOf
  pointwise [k0_pay7]

theorem ref_old (r : Fin 144) (h : Fin 128) (n : Fin 256) (p : Fin 64) :
    k0_pay4 x7 x8 (ix4 r h n p) = A.codes r h n p * A.scale r h n := by
  rw [← W.codes, ← W.scale]
  pointwise [k0_pay4]

theorem ref_x (r : Fin 144) (h : Fin 128) (p : Fin 64) : k0_pay5 x0 (ix3 r h p) = A.x r h p := by
  rw [← W.x]
  pointwise [k0_pay5]

theorem ref_b (r : Fin 144) (g : Fin 8) (n : Fin 256) : k0_pay8 x4 (ix3 r g n) = A.b r g n := by
  rw [← W.b]
  pointwise [k0_pay8]

/-- The new state. -/
theorem ref_state (r : Fin 144) (h : Fin 128) (n : Fin 256) (p : Fin 64) :
    k0_pay9 (k0_pay4 x7 x8) (k0_pay5 x0) (k0_pay6 x1 x2) (k0_pay7 x1 x2 x3) (k0_pay8 x4) (ix4 r h n p) = A.state r h n p := by
  have e : k0_pay9 (k0_pay4 x7 x8) (k0_pay5 x0) (k0_pay6 x1 x2) (k0_pay7 x1 x2 x3) (k0_pay8 x4) (ix4 r h n p)
      = k0_pay7 x1 x2 x3 (ix2 r h) * k0_pay4 x7 x8 (ix4 r h n p)
        + k0_pay6 x1 x2 (ix2 r h) * k0_pay5 x0 (ix3 r h p) * k0_pay8 x4 (ix3 r (group h) n) := by
    generalize k0_pay4 x7 x8 = a4
    generalize k0_pay5 x0 = a5
    generalize k0_pay7 x1 x2 x3 = a7
    generalize k0_pay6 x1 x2 = a6
    generalize k0_pay8 x4 = a8
    pointwise [k0_pay9]
    rfl
  rw [e, ref_decay W, ref_step W, ref_old W, ref_x W, ref_b W]
  rfl

theorem ref_reduced (r : Fin 144) (h : Fin 128) (n : Fin 256) :
    k0_pay11 (k0_pay4 x7 x8) (k0_pay5 x0) (k0_pay6 x1 x2) (k0_pay7 x1 x2 x3) (k0_pay8 x4) (ix3 r h n) = leastOf (A.state r h n) := by
  have e := ref_least (k0_pay4 x7 x8) (k0_pay5 x0) (k0_pay6 x1 x2) (k0_pay7 x1 x2 x3) (k0_pay8 x4) (ix3 r h n)
  have es := ref_state W r h n
  generalize k0_pay9 (k0_pay4 x7 x8) (k0_pay5 x0) (k0_pay6 x1 x2) (k0_pay7 x1 x2 x3) (k0_pay8 x4) = a9 at e es
  rw [e, row_max]
  simp only [es]
  rfl

/-- The exponent that the scale is made of. -/
theorem ref_exponent (r : Fin 144) (h : Fin 128) (n : Fin 256) :
    k0_pay1 (k0_pay12 (k0_pay4 x7 x8) (k0_pay5 x0) (k0_pay6 x1 x2) (k0_pay7 x1 x2 x3) (k0_pay8 x4))
      (k0_pay13 (k0_pay4 x7 x8) (k0_pay5 x0) (k0_pay6 x1 x2) (k0_pay7 x1 x2 x3) (k0_pay8 x4)) (Scalar.ofBits .f32 0x42FC0000#32) (ix3 r h n)
      = expoOf (leastOf (A.state r h n)) := by
  rw [← ref_reduced W]
  have e1 := ref_expo (k0_pay4 x7 x8) (k0_pay5 x0) (k0_pay6 x1 x2) (k0_pay7 x1 x2 x3) (k0_pay8 x4) (ix3 r h n)
  have e2 := ref_tiny (k0_pay4 x7 x8) (k0_pay5 x0) (k0_pay6 x1 x2) (k0_pay7 x1 x2 x3) (k0_pay8 x4) (ix3 r h n)
  generalize k0_pay12 (k0_pay4 x7 x8) (k0_pay5 x0) (k0_pay6 x1 x2) (k0_pay7 x1 x2 x3) (k0_pay8 x4) = a12 at e1 ⊢
  generalize k0_pay13 (k0_pay4 x7 x8) (k0_pay5 x0) (k0_pay6 x1 x2) (k0_pay7 x1 x2 x3) (k0_pay8 x4) = a13 at e2 ⊢
  have e : k0_pay1 a12 a13 (Scalar.ofBits .f32 0x42FC0000#32) (ix3 r h n)
      = Scalar.select (a13 (ix3 r h n)) 0 (min (a12 (ix3 r h n)) (Ideal.ofBits .f32 0x42FC0000#32)) := by
    pointwise [k0_pay1]
  rw [e, e1, e2]
  generalize k0_pay11 (k0_pay4 x7 x8) (k0_pay5 x0) (k0_pay6 x1 x2) (k0_pay7 x1 x2 x3) (k0_pay8 x4) (ix3 r h n) = t
  rfl

/-- The scales. -/
theorem ref_scale (r : Fin 144) (h : Fin 128) (n : Fin 256) :
    k0_pay2 (k0_pay12 (k0_pay4 x7 x8) (k0_pay5 x0) (k0_pay6 x1 x2) (k0_pay7 x1 x2 x3) (k0_pay8 x4))
      (k0_pay13 (k0_pay4 x7 x8) (k0_pay5 x0) (k0_pay6 x1 x2) (k0_pay7 x1 x2 x3) (k0_pay8 x4)) (Scalar.ofBits .f32 0x42FC0000#32) (ix3 r h n)
      = A.newScale r h n :=
  (ref_pow _ _ _ _).trans (congrArg (FloatOps.exp2 (F := Ideal) (φ := .f32)) (ref_exponent W r h n))

/-- The codes. -/
theorem ref_codes (r : Fin 144) (h : Fin 128) (n : Fin 256) (p : Fin 64) :
    k0_pay3 (k0_pay9 (k0_pay4 x7 x8) (k0_pay5 x0) (k0_pay6 x1 x2) (k0_pay7 x1 x2 x3) (k0_pay8 x4))
      (k0_pay12 (k0_pay4 x7 x8) (k0_pay5 x0) (k0_pay6 x1 x2) (k0_pay7 x1 x2 x3) (k0_pay8 x4))
      (k0_pay13 (k0_pay4 x7 x8) (k0_pay5 x0) (k0_pay6 x1 x2) (k0_pay7 x1 x2 x3) (k0_pay8 x4)) (Scalar.ofBits .f32 0x42FC0000#32) (ix4 r h n p)
      = A.newCodes r h n p := by
  refine (ref_quantise _ _ _ _ r h n p).trans ?_
  rw [ref_exponent W, ref_state W]
  refine (ideal_code _ _).trans ?_
  rw [zero_eq, EReal.coe_zero]
  rfl

/-- The output. -/
theorem ref_y (r : Fin 144) (h : Fin 128) (p : Fin 64) :
    k0_pay10 (k0_pay4 x7 x8) (k0_pay5 x0) (k0_pay6 x1 x2) (k0_pay7 x1 x2 x3) (k0_pay8 x4) x5 x6 (ix3 r h p) = A.y r h p := by
  have e : k0_pay10 (k0_pay4 x7 x8) (k0_pay5 x0) (k0_pay6 x1 x2) (k0_pay7 x1 x2 x3) (k0_pay8 x4) x5 x6 (ix3 r h p)
      = ∑ n, k0_pay9 (k0_pay4 x7 x8) (k0_pay5 x0) (k0_pay6 x1 x2) (k0_pay7 x1 x2 x3) (k0_pay8 x4) (ix4 r h n p) * x5 (ix3 r (group h) n)
        + x6 (ix1 h) * k0_pay5 x0 (ix3 r h p) := by
    generalize k0_pay4 x7 x8 = a4
    generalize k0_pay5 x0 = a5
    generalize k0_pay7 x1 x2 x3 = a7
    generalize k0_pay6 x1 x2 = a6
    generalize k0_pay8 x4 = a8
    pointwise [k0_pay10]
    rfl
  rw [e, ref_x W, W.d]
  unfold Args.y
  congr 1
  exact Finset.sum_congr rfl fun n _ => by rw [ref_state W, W.c]

end body

end Cert.Decode

end
-- ==== Proof.RefRun.lean ====
/- The reference's run over the extended reals: what its three results hold, its arguments unchanged. -/
module

public import proofs.«01_k».proof.Proof.RefGather
public import proofs.«01_k».proof.Proof.RefValue
public import proofs.«01_k».proof.Proof.Gen.ReferenceIdeal.Value

@[expose] public section

set_option maxRecDepth 16384

noncomputable section

namespace Cert.Decode

open Cert.ReferenceIdeal Cert.ReferenceIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)
  (hs : ∀ x, (m ((c : Thread nD τ).loc main_arg9) x).toNat < 183)

/-- The reference's arguments. -/
def refArgs : Args :=
  argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

theorem whole_at (j s : Nat) : 0 * s + 1 * j = j := by omega

include hs in
/-- The body reads the whole arrays. -/
theorem ref_arrays (t : Fin cfg0.N) :
    Arrays (refArgs m c) (iblk m c 0 t) (iblk m c 1 t) (iblk m c 2 t) (iblk m c 3 t) (iblk m c 4 t)
      (iblk m c 5 t) (iblk m c 6 t) (iblk m c 7 t) (iblk m c 8 t) where
  x r h p := by
    refine Eq.trans ?_ (congrFun (V_main_arg0 m c) (ix3 r h p))
    show Gen.V m c main_arg0 _ = _
    exact congrArg (Gen.V m c main_arg0) (funext fun a => Fin.ext (match a with
      | ⟨0, _⟩ => whole_at r.val _ | ⟨1, _⟩ => whole_at h.val _ | ⟨2, _⟩ => whole_at p.val _))
  dt r h := by
    refine Eq.trans ?_ (congrFun (V_main_arg1 m c) (ix2 r h))
    show Gen.V m c main_arg1 _ = _
    exact congrArg (Gen.V m c main_arg1) (funext fun a => Fin.ext (match a with
      | ⟨0, _⟩ => whole_at r.val _ | ⟨1, _⟩ => whole_at h.val _))
  bias h := by
    refine Eq.trans ?_ (congrFun (V_main_arg2 m c) (ix1 h))
    show Gen.V m c main_arg2 _ = _
    exact congrArg (Gen.V m c main_arg2) (funext fun a => Fin.ext (match a with | ⟨0, _⟩ => whole_at h.val _))
  alog h := by
    refine Eq.trans ?_ (congrFun (V_main_arg3 m c) (ix1 h))
    show Gen.V m c main_arg3 _ = _
    exact congrArg (Gen.V m c main_arg3) (funext fun a => Fin.ext (match a with | ⟨0, _⟩ => whole_at h.val _))
  b r g n := by
    refine Eq.trans ?_ (congrFun (V_main_arg4 m c) (ix3 r g n))
    show Gen.V m c main_arg4 _ = _
    exact congrArg (Gen.V m c main_arg4) (funext fun a => Fin.ext (match a with
      | ⟨0, _⟩ => whole_at r.val _ | ⟨1, _⟩ => whole_at g.val _ | ⟨2, _⟩ => whole_at n.val _))
  c r g n := by
    refine Eq.trans ?_ (congrFun (V_main_arg5 m c) (ix3 r g n))
    show Gen.V m c main_arg5 _ = _
    exact congrArg (Gen.V m c main_arg5) (funext fun a => Fin.ext (match a with
      | ⟨0, _⟩ => whole_at r.val _ | ⟨1, _⟩ => whole_at g.val _ | ⟨2, _⟩ => whole_at n.val _))
  d h := by
    refine Eq.trans ?_ (congrFun (V_main_arg6 m c) (ix1 h))
    show Gen.V m c main_arg6 _ = _
    exact congrArg (Gen.V m c main_arg6) (funext fun a => Fin.ext (match a with | ⟨0, _⟩ => whole_at h.val _))
  codes r h n p := by
    refine Eq.trans ?_ (ref_V_codes m c hs r h n p)
    show Gen.V m c main_v6 _ = _
    exact congrArg (Gen.V m c main_v6) (funext fun a => Fin.ext (match a with
      | ⟨0, _⟩ => whole_at r.val _ | ⟨1, _⟩ => whole_at h.val _ | ⟨2, _⟩ => whole_at n.val _ | ⟨3, _⟩ => whole_at p.val _))
  scale r h n := by
    refine Eq.trans ?_ (ref_V_scale m c hs r h n)
    show Gen.V m c main_v13 _ = _
    exact congrArg (Gen.V m c main_v13) (funext fun a => Fin.ext (match a with
      | ⟨0, _⟩ => whole_at r.val _ | ⟨1, _⟩ => whole_at h.val _ | ⟨2, _⟩ => whole_at n.val _))

section outputs

variable {F : FTy → Type} [FloatOps F] (x0 : Vec F S144x128x64 .bf16) (x1 : Vec F S144x128 .bf16) (x2 x3 : Vec F S128 .f32)
  (x4 x5 : Vec F S144x8x256 .bf16) (x6 : Vec F S128 .f32) (x7 : Vec F S144x128x256x64 .fp8e4m3) (x8 : Vec F S144x128x256 .f32)

theorem nil1 : (![0] : Fin 1 → Nat) = fun _ => 0 := funext fun a => by fin_cases a <;> rfl
theorem nil2 : (![0, 0] : Fin 2 → Nat) = fun _ => 0 := funext fun a => by fin_cases a <;> rfl
theorem nil3 : (![0, 0, 0] : Fin 3 → Nat) = fun _ => 0 := funext fun a => by fin_cases a <;> rfl
theorem nil4 : (![0, 0, 0, 0] : Fin 4 → Nat) = fun _ => 0 := funext fun a => by fin_cases a <;> rfl

/-- The values that the body hands on, from the whole inputs. -/
theorem part_old : k0_pay14 x0 x1 x2 x3 x4 x5 x6 x7 x8 = k0_pay4 x7 x8 := by
  unfold k0_pay14
  rw [View.ld_unit_zero nil4, View.ld_unit_zero nil3]

theorem part_x : k0_pay15 x0 x1 x2 x3 x4 x5 x6 x7 x8 = k0_pay5 x0 := by
  unfold k0_pay15
  rw [View.ld_unit_zero nil3]

theorem part_step : k0_pay16 x0 x1 x2 x3 x4 x5 x6 x7 x8 = k0_pay6 x1 x2 := by
  unfold k0_pay16
  rw [View.ld_unit_zero nil2, View.ld_unit_zero nil1]

theorem part_decay : k0_pay17 x0 x1 x2 x3 x4 x5 x6 x7 x8 = k0_pay7 x1 x2 x3 := by
  unfold k0_pay17
  rw [View.ld_unit_zero nil2, View.ld_unit_zero nil1, View.ld_unit_zero nil1]

theorem part_b : k0_pay18 x0 x1 x2 x3 x4 x5 x6 x7 x8 = k0_pay8 x4 := by
  unfold k0_pay18
  rw [View.ld_unit_zero nil3]

theorem part_expo : k0_pay19 x0 x1 x2 x3 x4 x5 x6 x7 x8
    = k0_pay12 (k0_pay4 x7 x8) (k0_pay5 x0) (k0_pay6 x1 x2) (k0_pay7 x1 x2 x3) (k0_pay8 x4) := by
  unfold k0_pay19
  rw [part_old, part_x, part_step, part_decay, part_b]

theorem part_tiny : k0_pay20 x0 x1 x2 x3 x4 x5 x6 x7 x8
    = k0_pay13 (k0_pay4 x7 x8) (k0_pay5 x0) (k0_pay6 x1 x2) (k0_pay7 x1 x2 x3) (k0_pay8 x4) := by
  unfold k0_pay20
  rw [part_old, part_x, part_step, part_decay, part_b]

/-- The body's three stores, each whole. -/
theorem store_y : out0_9 x0 x1 x2 x3 x4 x5 x6 x7 x8
    = k0_pay10 (k0_pay4 x7 x8) (k0_pay5 x0) (k0_pay6 x1 x2) (k0_pay7 x1 x2 x3) (k0_pay8 x4) x5 x6 := by
  unfold out0_9
  rw [View.canon_unit_zero nil3, part_old, part_x, part_step, part_decay, part_b, View.ld_unit_zero nil3, View.ld_unit_zero nil1]

theorem store_codes : out0_10 x0 x1 x2 x3 x4 x5 x6 x7 x8
    = k0_pay3 (k0_pay9 (k0_pay4 x7 x8) (k0_pay5 x0) (k0_pay6 x1 x2) (k0_pay7 x1 x2 x3) (k0_pay8 x4))
        (k0_pay12 (k0_pay4 x7 x8) (k0_pay5 x0) (k0_pay6 x1 x2) (k0_pay7 x1 x2 x3) (k0_pay8 x4))
        (k0_pay13 (k0_pay4 x7 x8) (k0_pay5 x0) (k0_pay6 x1 x2) (k0_pay7 x1 x2 x3) (k0_pay8 x4)) (Scalar.ofBits .f32 0x42FC0000#32) := by
  unfold out0_10
  rw [View.canon_unit_zero nil4, part_expo, part_tiny, part_old, part_x, part_step, part_decay, part_b]

theorem store_scale : out0_11 x0 x1 x2 x3 x4 x5 x6 x7 x8
    = k0_pay2 (k0_pay12 (k0_pay4 x7 x8) (k0_pay5 x0) (k0_pay6 x1 x2) (k0_pay7 x1 x2 x3) (k0_pay8 x4))
        (k0_pay13 (k0_pay4 x7 x8) (k0_pay5 x0) (k0_pay6 x1 x2) (k0_pay7 x1 x2 x3) (k0_pay8 x4)) (Scalar.ofBits .f32 0x42FC0000#32) := by
  unfold out0_11
  rw [View.canon_unit_zero nil3, part_expo, part_tiny]

end outputs

/-- The one block of a result is its whole array. -/
theorem ref_read_y (t : Fin cfg0.N) (G : S144x128x64.Idx → EReal) (r : Fin 144) (h : Fin 128) (p : Fin 64) :
    ((cfg0.win 9).blk t).view.read (Elt Ideal) G (ix3 r h p) = G (ix3 r h p) := by
  show G _ = G _
  exact congrArg G (funext fun a => Fin.ext (match a with
    | ⟨0, _⟩ => whole_at r.val _ | ⟨1, _⟩ => whole_at h.val _ | ⟨2, _⟩ => whole_at p.val _))

theorem ref_read_codes (t : Fin cfg0.N) (G : S144x128x256x64.Idx → EReal) (r : Fin 144) (h : Fin 128) (n : Fin 256) (p : Fin 64) :
    ((cfg0.win 10).blk t).view.read (Elt Ideal) G (ix4 r h n p) = G (ix4 r h n p) := by
  show G _ = G _
  exact congrArg G (funext fun a => Fin.ext (match a with
    | ⟨0, _⟩ => whole_at r.val _ | ⟨1, _⟩ => whole_at h.val _ | ⟨2, _⟩ => whole_at n.val _ | ⟨3, _⟩ => whole_at p.val _))

theorem ref_read_scale (t : Fin cfg0.N) (G : S144x128x256.Idx → EReal) (r : Fin 144) (h : Fin 128) (n : Fin 256) :
    ((cfg0.win 11).blk t).view.read (Elt Ideal) G (ix3 r h n) = G (ix3 r h n) := by
  show G _ = G _
  exact congrArg G (funext fun a => Fin.ext (match a with
    | ⟨0, _⟩ => whole_at r.val _ | ⟨1, _⟩ => whole_at h.val _ | ⟨2, _⟩ => whole_at n.val _))

include hs in
theorem ref_flushed_y (t : Fin cfg0.N) :
    (dats m 0 c).flushed 9 t = ((cfg0.win 9).blk t).view.read (Elt Ideal) (yArray (refArgs m c)) := by
  rw [Value.flushed9 m c t, store_y]
  refine funext fun (j : S144x128x64.Idx) => ?_
  obtain ⟨r, h, p, rfl⟩ : ∃ (r : Fin 144) (h : Fin 128) (p : Fin 64), j = ix3 r h p :=
    ⟨j 0, j 1, j 2, funext fun a => match a with | ⟨0, _⟩ => rfl | ⟨1, _⟩ => rfl | ⟨2, _⟩ => rfl⟩
  exact (ref_y (ref_arrays m c hs t) r h p).trans (ref_read_y t (yArray (refArgs m c)) r h p).symm

include hs in
theorem ref_flushed_codes (t : Fin cfg0.N) :
    (dats m 0 c).flushed 10 t = ((cfg0.win 10).blk t).view.read (Elt Ideal) (codesArray (refArgs m c)) := by
  rw [Value.flushed10 m c t, store_codes]
  refine funext fun (j : S144x128x256x64.Idx) => ?_
  obtain ⟨r, h, n, p, rfl⟩ : ∃ (r : Fin 144) (h : Fin 128) (n : Fin 256) (p : Fin 64), j = ix4 r h n p :=
    ⟨j 0, j 1, j 2, j 3, funext fun a => match a with | ⟨0, _⟩ => rfl | ⟨1, _⟩ => rfl | ⟨2, _⟩ => rfl | ⟨3, _⟩ => rfl⟩
  exact (ref_codes (ref_arrays m c hs t) r h n p).trans (ref_read_codes t (codesArray (refArgs m c)) r h n p).symm

include hs in
theorem ref_flushed_scale (t : Fin cfg0.N) :
    (dats m 0 c).flushed 11 t = ((cfg0.win 11).blk t).view.read (Elt Ideal) (scaleArray (refArgs m c)) := by
  rw [Value.flushed11 m c t, store_scale]
  refine funext fun (j : S144x128x256.Idx) => ?_
  obtain ⟨r, h, n, rfl⟩ : ∃ (r : Fin 144) (h : Fin 128) (n : Fin 256), j = ix3 r h n :=
    ⟨j 0, j 1, j 2, funext fun a => match a with | ⟨0, _⟩ => rfl | ⟨1, _⟩ => rfl | ⟨2, _⟩ => rfl⟩
  exact (ref_scale (ref_arrays m c hs t) r h n).trans (ref_read_scale t (scaleArray (refArgs m c)) r h n).symm

theorem whole_axis {s x : Nat} (h : x < s) : 0 * s ≤ x ∧ x < 0 * s + s := by omega

theorem ref_cover_y (i : S144x128x64.Idx) :
    ∃ t : Fin cfg0.N, (cfg0.win 9).flush t = true ∧ i ∈ ((cfg0.win 9).blk t).view.set := by
  refine ⟨t0_0, flush0_9 _, ?_⟩
  refine (congrArg (fun S => i ∈ S) (View.set_slice_whole main_v14_0 ((cfg0.win 9).rect t0_0))).mpr ?_
  exact (Rect.mem_set_unit).mpr fun a => match a with
    | ⟨0, _⟩ => whole_axis (i 0).isLt | ⟨1, _⟩ => whole_axis (i 1).isLt | ⟨2, _⟩ => whole_axis (i 2).isLt

theorem ref_cover_codes (i : S144x128x256x64.Idx) :
    ∃ t : Fin cfg0.N, (cfg0.win 10).flush t = true ∧ i ∈ ((cfg0.win 10).blk t).view.set := by
  refine ⟨t0_0, flush0_10 _, ?_⟩
  refine (congrArg (fun S => i ∈ S) (View.set_slice_whole main_v14_1 ((cfg0.win 10).rect t0_0))).mpr ?_
  exact (Rect.mem_set_unit).mpr fun a => match a with
    | ⟨0, _⟩ => whole_axis (i 0).isLt | ⟨1, _⟩ => whole_axis (i 1).isLt | ⟨2, _⟩ => whole_axis (i 2).isLt | ⟨3, _⟩ => whole_axis (i 3).isLt

theorem ref_cover_scale (i : S144x128x256.Idx) :
    ∃ t : Fin cfg0.N, (cfg0.win 11).flush t = true ∧ i ∈ ((cfg0.win 11).blk t).view.set := by
  refine ⟨t0_0, flush0_11 _, ?_⟩
  refine (congrArg (fun S => i ∈ S) (View.set_slice_whole main_v14_2 ((cfg0.win 11).rect t0_0))).mpr ?_
  exact (Rect.mem_set_unit).mpr fun a => match a with
    | ⟨0, _⟩ => whole_axis (i 0).isLt | ⟨1, _⟩ => whole_axis (i 1).isLt | ⟨2, _⟩ => whole_axis (i 2).isLt

/-- The run, its results read, its arguments unchanged. -/
theorem ref_run (hs : ∀ c : Dev nD, ∀ x, (m ((c : Thread nD τ).loc main_arg9) x).toNat < 183) :
    θ_run defs (onTc (τ := τ) (main (F := Ideal))) ⟨m, fun _ => 0, ρ⟩ (fun r => ∀ c : Dev nD,
      r.2.mem ((c.tc : Thread nD τ).loc main_v14_0) = yArray (refArgs m c)
      ∧ r.2.mem ((c.tc : Thread nD τ).loc main_v14_1) = codesArray (refArgs m c)
      ∧ r.2.mem ((c.tc : Thread nD τ).loc main_v14_2) = scaleArray (refArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => by
      obtain ⟨hy, hcodes, hscale, hargs⟩ := h c
      exact ⟨hy.trans ((dats m 0 c).arrAt_eq_of_cover 9 (yArray (refArgs m c)) (fun t _ => ref_flushed_y m c (hs c) t) ref_cover_y),
        hcodes.trans ((dats m 0 c).arrAt_eq_of_cover 10 (codesArray (refArgs m c)) (fun t _ => ref_flushed_codes m c (hs c) t) ref_cover_codes),
        hscale.trans ((dats m 0 c).arrAt_eq_of_cover 11 (scaleArray (refArgs m c)) (fun t _ => ref_flushed_scale m c (hs c) t) ref_cover_scale),
        hargs⟩)
    (Value.run_blocks m ρ)

end Cert.Decode

end
-- ==== Proof.lean ====
/- The proof of the claims. The kernel as printed, its ideal reading and the reference each run to the end, fault nowhere and
   leave their arguments as they were; for the kernel that needs the precondition, which puts every slot the step names in the
   pool (Proof/Slots.lean). Over the extended reals the kernel (Proof/KernelRun.lean) and the reference (Proof/RefRun.lean)
   both leave the step's mathematics (Proof/Spec.lean) in all three results. -/
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.Pre_ids_in_pool
public import proofs.«01_k».proof.Proof.Slots
public import proofs.«01_k».proof.Proof.KernelRun
public import proofs.«01_k».proof.Proof.RefRun
public import Idealize.ShloMosaic.Lib.Claim

@[expose] public section

noncomputable section

namespace Cert.Proof

open Idealize.ShloMosaic Idealize.SL.Sem Cert.Decode

instance : Cert.KernelIdeal.Facts := Cert.KernelIdeal.Gen.facts
instance : Cert.ReferenceIdeal.Facts := Cert.ReferenceIdeal.Gen.facts
instance : Cert.Pre_ids_in_pool.Facts := Cert.Pre_ids_in_pool.Gen.facts

/-- Kernel and reference, run on the same arguments, leave the same three results. -/
theorem algebraic : Cert.algebraic_KernelIdeal_ReferenceIdeal := by
  intro m g m' g' hpre hargs
  have hs : ∀ c : Dev Cert.KernelIdeal.nD, ∀ x,
      (m ((c.tc : Thread Cert.KernelIdeal.nD Cert.KernelIdeal.τ).loc Cert.KernelIdeal.main_arg9) x).toNat < 183 :=
    fun c => slot_lt (hpre c)
  have hO := ok_ideal m (slot_lt (hpre 0))
  have hs' : ∀ c : Dev Cert.ReferenceIdeal.nD, ∀ x,
      (m' ((c.tc : Thread Cert.ReferenceIdeal.nD Cert.ReferenceIdeal.τ).loc Cert.ReferenceIdeal.main_arg9) x).toNat < 183 := by
    intro c x
    obtain ⟨_, _, _, _, _, _, _, _, _, h9⟩ := hargs c
    rw [h9]
    exact hs c x
  have same : ∀ c : Dev Cert.ReferenceIdeal.nD, refArgs m' c = kernelArgs m c := by
    intro c
    obtain ⟨h0, h1, h2, h3, h4, h5, h6, h7, h8, h9⟩ := hargs c
    unfold refArgs kernelArgs
    rw [h0, h1, h2, h3, h4, h5, h6, h7, h8, h9]
  refine ⟨fun c => yArray (kernelArgs m c), fun c => codesArray (kernelArgs m c), fun c => scaleArray (kernelArgs m c), ?_, ?_⟩
  · refine (θ_run _ _ _).mono (fun r h c => ?_) (θ_run_and (kernel_run m g hO hs) (Cert.KernelIdeal.Gen.unchanged m g hO))
    exact ⟨(h.1 c).1, (h.1 c).2.1, (h.1 c).2.2, h.2 c⟩
  · refine (θ_run _ _ _).mono (fun r h c => ?_) (ref_run m' g' hs')
    obtain ⟨hy, hcodes, hscale, hkept⟩ := h c
    exact ⟨hy.trans (congrArg yArray (same c)), hcodes.trans (congrArg codesArray (same c)),
      hscale.trans (congrArg scaleArray (same c)), hkept⟩

theorem claim : Cert.Claim :=
  ⟨Cert.Kernel.Gen.facts, Cert.KernelIdeal.Gen.facts, Cert.ReferenceIdeal.Gen.facts, Cert.Pre_ids_in_pool.Gen.facts,
    fun m ρ h => Cert.Kernel.Gen.frame m ρ (ok_kernel m (slot_lt (h 0))),
    fun m ρ h => Cert.KernelIdeal.Gen.frame m ρ (ok_ideal m (slot_lt (h 0))),
    fun m ρ _ => Cert.ReferenceIdeal.Gen.frame m ρ,
    fun m ρ _ => Cert.ReferenceIdeal.Gen.frame m ρ,
    trivial,
    algebraic⟩

end Cert.Proof

end
